-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 4096, 3]⟩ ⟨3, ![4, 4096, 3]⟩ 0 2 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v124)) (v1 : Buf (Elt Ideal) (((0 : Dev Cert.ReferenceIdeal.nD).tc : Thread Cert.ReferenceIdeal.nD Cert.ReferenceIdeal.τ).loc Cert.ReferenceIdeal.main_v117)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = Layout.block ⟨1, ![262144]⟩ ⟨1, ![524288]⟩ 0 2 c v0
          ∧ r.2.mem ((c.tc : Thread Cert.KernelIdeal.nD Cert.KernelIdeal.τ).loc Cert.KernelIdeal.main_v16) = Layout.block ⟨2, ![262144, 3]⟩ ⟨2, ![524288, 3]⟩ 0 2 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v124) = v0
          ∧ r.2.mem (((0 : Dev Cert.ReferenceIdeal.nD).tc : Thread Cert.ReferenceIdeal.nD Cert.ReferenceIdeal.τ).loc Cert.ReferenceIdeal.main_v117) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x4096x3 : Shape := ⟨3, ![2, 4096, 3]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel

variable [Facts]

def fn {F : FTy → Type} [FloatOps F] (main_arg0 : FVec F S2x4096x3 .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  main_v3
-- ==== Pre_finite_ReferenceIdeal.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== KernelIdeal.lean ====
abbrev S2x4096x3 : Shape := ⟨3, ![2, 4096, 3]⟩
abbrev S2x3x4096 : Shape := ⟨3, ![2, 3, 4096]⟩
abbrev S2x32x4096 : Shape := ⟨3, ![2, 32, 4096]⟩
abbrev S1x4096x3 : Shape := ⟨3, ![1, 4096, 3]⟩
abbrev S1x3x512 : Shape := ⟨3, ![1, 3, 512]⟩
abbrev S1x32x512 : Shape := ⟨3, ![1, 32, 512]⟩
abbrev S4096x512 : Shape := ⟨2, ![4096, 512]⟩
abbrev S4096x1 : Shape := ⟨2, ![4096, 1]⟩
abbrev S4096x3 : Shape := ⟨2, ![4096, 3]⟩
abbrev S3x512 : Shape := ⟨2, ![3, 512]⟩
abbrev S4096 : Shape := ⟨1, ![4096]⟩
abbrev S512 : Shape := ⟨1, ![512]⟩
abbrev S1x512 : Shape := ⟨2, ![1, 512]⟩
abbrev S32x512 : Shape := ⟨2, ![32, 512]⟩
abbrev S2x4096x32 : Shape := ⟨3, ![2, 4096, 32]⟩
abbrev S262144 : Shape := ⟨1, ![262144]⟩
abbrev S8192x3 : Shape := ⟨2, ![8192, 3]⟩
abbrev S8192x1 : Shape := ⟨2, ![8192, 1]⟩
abbrev S8192 : Shape := ⟨1, ![8192]⟩
abbrev S_ : Shape := ⟨0, ![]⟩
abbrev S16 : Shape := ⟨1, ![16]⟩
abbrev S262144x1 : Shape := ⟨2, ![262144, 1]⟩
abbrev S262144x3 : Shape := ⟨2, ![262144, 3]⟩

abbrev nBuf : Table → Nat
  | .hbm => 29
  | .local .tc .vmem => 8
  | .local .scVector .vmem => 7
  | _ => 0

abbrev bufTy : (tb : Table) → Fin (nBuf tb) → BufTy
  | .hbm, ⟨0, _⟩ => ⟨S2x4096x3, .f32⟩
  | .hbm, ⟨1, _⟩ => ⟨S2x3x4096, .f32⟩
  | .hbm, ⟨2, _⟩ => ⟨S2x32x4096, .i32⟩
  | .hbm, ⟨3, _⟩ => ⟨S2x4096x32, .i32⟩
  | .hbm, ⟨4, _⟩ => ⟨S262144, .i32⟩
  | .hbm, ⟨5, _⟩ => ⟨S8192x3, .f32⟩
  | .hbm, ⟨6, _⟩ => ⟨S8192x1, .f32⟩
  | .hbm, ⟨7, _⟩ => ⟨S8192, .f32⟩
  | .hbm, ⟨8, _⟩ => ⟨S8192x1, .f32⟩
  | .hbm, ⟨9, _⟩ => ⟨S8192, .f32⟩
  | .hbm, ⟨10, _⟩ => ⟨S8192x1, .f32⟩
  | .hbm, ⟨11, _⟩ => ⟨S8192, .f32⟩
  | .hbm, ⟨12, _⟩ => ⟨S262144, .f32⟩
  | .hbm, ⟨13, _⟩ => ⟨S262144, .f32⟩
  | .hbm, ⟨14, _⟩ => ⟨S262144, .f32⟩
  | .hbm, ⟨15, _⟩ => ⟨S262144x1, .f32⟩
  | .hbm, ⟨16, _⟩ => ⟨S262144x1, .f32⟩
  | .hbm, ⟨17, _⟩ => ⟨S262144x1, .f32⟩
  | .hbm, ⟨18, _⟩ => ⟨S262144x3, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S262144, .i32⟩
  | .hbm, ⟨28, _⟩ => ⟨S262144, .i32⟩
  | .local .tc .vmem, ⟨0, _⟩ => ⟨S1x4096x3, .f32⟩
  | .local .tc .vmem, ⟨1, _⟩ => ⟨S1x4096x3, .f32⟩
  | .local .tc .vmem, ⟨2, _⟩ => ⟨S1x3x512, .f32⟩
  | .local .tc .vmem, ⟨3, _⟩ => ⟨S1x3x512, .f32⟩
  | .local .tc .vmem, ⟨4, _⟩ => ⟨S1x32x512, .i32⟩
  | .local .tc .vmem, ⟨5, _⟩ => ⟨S1x32x512, .i32⟩
  | .local .tc .vmem, ⟨6, _⟩ => ⟨S4096x512, .f32⟩
  | .local .tc .vmem, ⟨7, _⟩ => ⟨S4096x1, .f32⟩
  | .local .scVector .vmem, ⟨0, _⟩ => ⟨S8192, .f32⟩
  | .local .scVector .vmem, ⟨1, _⟩ => ⟨S8192, .f32⟩
  | .local .scVector .vmem, ⟨2, _⟩ => ⟨S8192, .f32⟩
  | .local .scVector .vmem, ⟨3, _⟩ => ⟨S4096, .i32⟩
  | .local .scVector .vmem, ⟨4, _⟩ => ⟨S4096, .f32⟩
  | .local .scVector .vmem, ⟨5, _⟩ => ⟨S4096, .f32⟩
  | .local .scVector .vmem, ⟨6, _⟩ => ⟨S4096, .f32⟩
  | _, _ => ⟨S2x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_v10 : Ref sig .tc := ⟨.hbm, 10, rfl⟩
abbrev main_v11 : Ref sig .tc := ⟨.hbm, 11, rfl⟩
abbrev main_v12_0 : Ref sig .tc := ⟨.hbm, 12, rfl⟩
abbrev main_v12_1 : Ref sig .tc := ⟨.hbm, 13, rfl⟩
abbrev main_v12_2 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v7_scv : Ref sig .scVector := ⟨.hbm, 7, rfl⟩
abbrev main_v9_scv : Ref sig .scVector := ⟨.hbm, 9, rfl⟩
abbrev main_v11_scv : Ref sig .scVector := ⟨.hbm, 11, rfl⟩
abbrev main_v4_scv : Ref sig .scVector := ⟨.hbm, 4, rfl⟩
abbrev main_v12_0_scv : Ref sig .scVector := ⟨.hbm, 12, rfl⟩
abbrev main_v12_1_scv : Ref sig .scVector := ⟨.hbm, 13, rfl⟩
abbrev main_v12_2_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 2
abbrev τ : Topo := Topo.v7x

variable {F : FTy → Type} [FloatOps F]

abbrev grid0 : Pipeline.Grid := ⟨2, ![2, 8], ![false, false]⟩

@[reducible] def k0_t1_loop : Scf.Loop 32 :=
  let c0_i32_13 : BitVec 32 := 0#32
  let c32_i32 : BitVec 32 := 32#32
  let v25 : BitVec 32 := Scalar.addi c0_i32_13 c32_i32
  let c1_i32 : BitVec 32 := 1#32
  ⟨c0_i32_13, v25, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_0 : BitVec 32 := 0#32
  let c2_i32_1 : BitVec 32 := 2#32
  let v3 : BitVec 32 := Scalar.addi c0_i32_0 c2_i32_1
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v5 : BitVec 32 := Scalar.muli v1 c8192_i32
  let c0_i32_0 : BitVec 32 := 0#32
  let c1_i32 : BitVec 32 := 1#32
  let arg16 : BitVec 32 := Scf.iv c0_i32_0 c1_i32 k1_t1
  let c4096_i32 : BitVec 32 := 4096#32
  let v6 : BitVec 32 := Scalar.muli arg16 c4096_i32
  let v7 : BitVec 32 := Scalar.addi v5 v6
  ![v7.toNat]
@[reducible] def k1_t2_loop : Scf.Loop 32 :=
  let c0_i32_4 : BitVec 32 := 0#32
  let c256_i32 : BitVec 32 := 256#32
  let v8 : BitVec 32 := Scalar.addi c0_i32_4 c256_i32
  let c1_i32_5 : BitVec 32 := 1#32
  ⟨c0_i32_4, v8, c1_i32_5⟩
def k1_off2 (k1_t2 : Fin k1_t2_loop.trips) : Fin 1 → Nat :=
  let c0_i32_4 : BitVec 32 := 0#32
  let c1_i32_5 : BitVec 32 := 1#32
  let arg18 : BitVec 32 := Scf.iv c0_i32_4 c1_i32_5 k1_t2
  let c16_i32 : BitVec 32 := 16#32
  let v10 : BitVec 32 := Scalar.muli arg18 c16_i32
  let v11 : Index := Scalar.indexCast v10
  ![v11.toNat]
def k1_off3 (k1_t2 : Fin k1_t2_loop.trips) : Fin 1 → Nat :=
  let c0_i32_4 : BitVec 32 := 0#32
  let c1_i32_5 : BitVec 32 := 1#32
  let arg18 : BitVec 32 := Scf.iv c0_i32_4 c1_i32_5 k1_t2
  let c16_i32_9 : BitVec 32 := 16#32
  let v22 : BitVec 32 := Scalar.muli arg18 c16_i32_9
  let v23 : Index := Scalar.indexCast v22
  ![v23.toNat]

def k1_chk1 (v12 : IVec S16 32) : Prop :=
  (∀ a x, ((![v12] : Fin 1 → IVec S16 32) a x).toNat < S8192.size a) ∧
  (∀ a x, ((![v12] : Fin 1 → IVec S16 32) a x).toNat < S8192.size a) ∧
  (∀ a x, ((![v12] : Fin 1 → IVec S16 32) a x).toNat < S8192.size a)
theorem k1_idx1_inb : ∀ (v12 : IVec S16 32) (k1_hw1 : k1_chk1 v12), ∀ a x, ((![v12] : Fin 1 → IVec S16 32) a x).toNat < S8192.size a := fun v12 k1_hw1 => k1_hw1.1
theorem k1_idx3_inb : ∀ (v12 : IVec S16 32) (k1_hw1 : k1_chk1 v12), ∀ a x, ((![v12] : Fin 1 → IVec S16 32) a x).toNat < S8192.size a := fun v12 k1_hw1 => k1_hw1.2.1
theorem k1_idx5_inb : ∀ (v12 : IVec S16 32) (k1_hw1 : k1_chk1 v12), ∀ a x, ((![v12] : Fin 1 → IVec S16 32) a x).toNat < S8192.size a := fun v12 k1_hw1 => k1_hw1.2.2

def k1_chk2 (v18 : IVec S16 32) : Prop :=
  (∀ a x, ((![v18] : Fin 1 → IVec S16 32) a x).toNat < S8192.size a) ∧
  (∀ a x, ((![v18] : Fin 1 → IVec S16 32) a x).toNat < S8192.size a) ∧
  (∀ a x, ((![v18] : Fin 1 → IVec S16 32) a x).toNat < S8192.size a)
theorem k1_idx2_inb : ∀ (v18 : IVec S16 32) (k1_hw2 : k1_chk2 v18), ∀ a x, ((![v18] : Fin 1 → IVec S16 32) a x).toNat < S8192.size a := fun v18 k1_hw2 => k1_hw2.1
theorem k1_idx4_inb : ∀ (v18 : IVec S16 32) (k1_hw2 : k1_chk2 v18), ∀ a x, ((![v18] : Fin 1 → IVec S16 32) a x).toNat < S8192.size a := fun v18 k1_hw2 => k1_hw2.2.1
theorem k1_idx6_inb : ∀ (v18 : IVec S16 32) (k1_hw2 : k1_chk2 v18), ∀ a x, ((![v18] : Fin 1 → IVec S16 32) a x).toNat < S8192.size a := fun v18 k1_hw2 => k1_hw2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x32 : Shape := ⟨3, ![4, 4096, 32]⟩
abbrev S4x131072 : Shape := ⟨2, ![4, 131072]⟩
abbrev S4096 : Shape := ⟨1, ![4096]⟩
abbrev S4096x32 : Shape := ⟨2, ![4096, 32]⟩
abbrev S131072 : Shape := ⟨1, ![131072]⟩
abbrev S1x131072 : Shape := ⟨2, ![1, 131072]⟩
abbrev S131072x1 : Shape := ⟨2, ![131072, 1]⟩
abbrev S131072x2 : Shape := ⟨2, ![131072, 2]⟩
abbrev S131072x3 : Shape := ⟨2, ![131072, 3]⟩
abbrev S524288x3 : Shape := ⟨2, ![524288, 3]⟩
abbrev S4 : Shape := ⟨1, ![4]⟩
abbrev S4x1 : Shape := ⟨2, ![4, 1]⟩
abbrev S524288 : Shape := ⟨1, ![524288]⟩

abbrev nBuf : Space → Nat
  | .hbm => 155
  | .vmem => 0
  | .smem => 0
  | _ => 0

abbrev hbmTy0_0 (i : Nat) : BufTy := match i % 128 with
  | 0 => ⟨S4x4096x3, .f32⟩
  | 1 => ⟨S4x4096x3, .f32⟩
  | 2 => ⟨S_, .f32⟩
  | 3 => ⟨S4x4096, .f32⟩
  | 4 => ⟨S4x4096x1, .f32⟩
  | 5 => ⟨S4x1x4096, .f32⟩
  | 6 => ⟨S4x4096x4096, .f32⟩
  | 7 => ⟨S4x4096x4096, .f32⟩
  | 8 => ⟨S4x4096x4096, .f32⟩
  | 9 => ⟨S4x4096x4096, .f32⟩
  | 10 => ⟨S_, .f32⟩
  | 11 => ⟨S4x4096x4096, .f32⟩
  | 12 => ⟨S4x4096x4096, .f32⟩
  | 13 => ⟨S4x4096x4096, .f32⟩
  | 14 => ⟨S4x4096x4096, .i32⟩
  | 15 => ⟨S4x4096x4096, .f32⟩
  | 16 => ⟨S4x4096x4096, .i32⟩
  | 17 => ⟨S4x4096x32, .i32⟩
  | 18 => ⟨S4x131072, .i32⟩
  | 19 => ⟨S4096, .i32⟩
  | 20 => ⟨S4096x32, .i32⟩
  | 21 => ⟨S131072, .i32⟩
  | 22 => ⟨S1x131072, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S_, .i32⟩
  | 32 => ⟨S131072, .i32⟩
  | 33 => ⟨S131072, .i32⟩
  | 34 => ⟨S131072x1, .i32⟩
  | 35 => ⟨S131072x1, .i32⟩
  | 36 => ⟨S131072x2, .i32⟩
  | 37 => ⟨S131072x3, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S_, .i32⟩
  | 46 => ⟨S131072, .i32⟩
  | 47 => ⟨S131072, .i32⟩
  | 48 => ⟨S131072x1, .i32⟩
  | 49 => ⟨S131072x1, .i32⟩
  | 50 => ⟨S131072x2, .i32⟩
  | 51 => ⟨S131072x3, .f32⟩
  | 52 => ⟨S131072x3, .f32⟩
  | 53 => ⟨S1x131072, .i32⟩
  | 54 => ⟨S131072, .i32⟩
  | 55 => ⟨S_, .i32⟩
  | 56 => ⟨S131072, .i32⟩
  | 57 => ⟨S131072, .i1⟩
  | 58 => ⟨S_, .i32⟩
  | 59 => ⟨S131072, .i32⟩
  | 60 => ⟨S131072, .i32⟩
  | 61 => ⟨S131072, .i32⟩
  | 62 => ⟨S_, .i32⟩
  | 63 => ⟨S131072, .i32⟩
  | 64 => ⟨S131072, .i32⟩
  | 65 => ⟨S131072x1, .i32⟩
  | 66 => ⟨S131072x1, .i32⟩
  | 67 => ⟨S131072x2, .i32⟩
  | 68 => ⟨S131072x3, .f32⟩
  | 69 => ⟨S_, .i32⟩
  | 70 => ⟨S131072, .i32⟩
  | 71 => ⟨S131072, .i1⟩
  | 72 => ⟨S_, .i32⟩
  | 73 => ⟨S131072, .i32⟩
  | 74 => ⟨S131072, .i32⟩
  | 75 => ⟨S131072, .i32⟩
  | 76 => ⟨S_, .i32⟩
  | 77 => ⟨S131072, .i32⟩
  | 78 => ⟨S131072, .i32⟩
  | 79 => ⟨S131072x1, .i32⟩
  | 80 => ⟨S131072x1, .i32⟩
  | 81 => ⟨S131072x2, .i32⟩
  | 82 => ⟨S131072x3, .f32⟩
  | 83 => ⟨S131072x3, .f32⟩
  | 84 => ⟨S1x131072, .i32⟩
  | 85 => ⟨S131072, .i32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S_, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S131072x3, .f32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S_, .i32⟩
  | 108 => ⟨S131072, .i32⟩
  | 109 => ⟨S131072, .i32⟩
  | 110 => ⟨S131072x1, .i32⟩
  | 111 => ⟨S131072x1, .i32⟩
  | 112 => ⟨S131072x2, .i32⟩
  | 113 => ⟨S131072x3, .f32⟩
  | 114 => ⟨S131072x3, .f32⟩
  | 115 => ⟨S1x131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S_, .i32⟩
  | 125 => ⟨S131072, .i32⟩
  | 126 => ⟨S131072, .i32⟩
  | 127 => ⟨S131072x1, .i32⟩
  | _ => ⟨S4x4096x3, .f32⟩

abbrev hbmTy0_1 (i : Nat) : BufTy := match i % 128 with
  | 0 => ⟨S131072x1, .i32⟩
  | 1 => ⟨S131072x2, .i32⟩
  | 2 => ⟨S131072x3, .f32⟩
  | 3 => ⟨S_, .i32⟩
  | 4 => ⟨S131072, .i32⟩
  | 5 => ⟨S131072, .i1⟩
  | 6 => ⟨S_, .i32⟩
  | 7 => ⟨S131072, .i32⟩
  | 8 => ⟨S131072, .i32⟩
  | 9 => ⟨S131072, .i32⟩
  | 10 => ⟨S_, .i32⟩
  | 11 => ⟨S131072, .i32⟩
  | 12 => ⟨S131072, .i32⟩
  | 13 => ⟨S131072x1, .i32⟩
  | 14 => ⟨S131072x1, .i32⟩
  | 15 => ⟨S131072x2, .i32⟩
  | 16 => ⟨S131072x3, .f32⟩
  | 17 => ⟨S131072x3, .f32⟩
  | 18 => ⟨S524288x3, .f32⟩
  | 19 => ⟨S4, .i32⟩
  | 20 => ⟨S_, .i32⟩
  | 21 => ⟨S4, .i32⟩
  | 22 => ⟨S4, .i32⟩
  | 23 => ⟨S4x1, .i32⟩
  | 24 => ⟨S4x131072, .i32⟩
  | 25 => ⟨S4x131072, .i32⟩
  | 26 => ⟨S524288, .i32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_3 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_v44 : Ref sig .tc := ⟨.hbm, 56, rfl⟩
abbrev main_v45 : Ref sig .tc := ⟨.hbm, 57, rfl⟩
abbrev main_c_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_9 : Ref sig .tc := ⟨.hbm, 69, rfl⟩
abbrev main_v55 : Ref sig .tc := ⟨.hbm, 70, rfl⟩
abbrev main_v56 : Ref sig .tc := ⟨.hbm, 71, rfl⟩
abbrev main_c_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c_12 : Ref sig .tc := ⟨.hbm, 86, rfl⟩
abbrev main_v69 : Ref sig .tc := ⟨.hbm, 87, rfl⟩
abbrev main_v70 : Ref sig .tc := ⟨.hbm, 88, rfl⟩
abbrev main_c_13 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_14 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_15 : Ref sig .tc := ⟨.hbm, 100, rfl⟩
abbrev main_v80 : Ref sig .tc := ⟨.hbm, 101, rfl⟩
abbrev main_v81 : Ref sig .tc := ⟨.hbm, 102, rfl⟩
abbrev main_c_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_17 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_18 : Ref sig .tc := ⟨.hbm, 117, rfl⟩
abbrev main_v94 : Ref sig .tc := ⟨.hbm, 118, rfl⟩
abbrev main_v95 : Ref sig .tc := ⟨.hbm, 119, rfl⟩
abbrev main_c_19 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_20 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_21 : Ref sig .tc := ⟨.hbm, 131, rfl⟩
abbrev main_v105 : Ref sig .tc := ⟨.hbm, 132, rfl⟩
abbrev main_v106 : Ref sig .tc := ⟨.hbm, 133, rfl⟩
abbrev main_c_22 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_c_23 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_c_24 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩

abbrev nD : Nat := 1
abbrev τ : Topo := Topo.v7x

variable {F : FTy → Type} [FloatOps F]
-- ==== Proof.Base.lean ====
/-
  The whole kernel as the launch theorem for SparseCore programs sees it: the configuration, the resource algebra (the
  handshakes' rounds, the TensorCore pipeline's rounds and the transfers' counters side by side) and the locations of
  the arrays the SparseCore call works on.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.RegionArraysS
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program once the TensorCore call's pipeline is added. -/
abbrev ΛP : Labels := Pipeline.Sig Λ₀ (Fin 1) fun p => (pcfgs (F := F) p).Adm
/-- The SparseCore configuration of the program. -/
abbrev K : SparseCore.Cfg τ sig (ΛP (F := F)) 1 := sc (F := F)
/-- The body table with the pipeline added. -/
abbrev D [FloatOps F] : Defs nD τ sig (Elt F) (ΛP (F := F)) := Pipeline.defs pcfgs defs₀
/-- No loop variant is needed. -/
abbrev 𝒱₀ : Variants := Variants.none
/-- The same, lifted to the pipeline's labels. -/
abbrev 𝒱 : Variants := 𝒱₀.lift
/-- The variant value of a thread. -/
abbrev v₀ : 𝒱.V := Sum.inl none

/-- The launch's facts about the handshake semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
/-- The three components side by side. -/
abbrev UU : Type := UH × (UP × Counters)
/-- The handshakes' component. -/
abbrev EH : Emb UH (MT nD τ sig (HIx 1) (Elt F) ℕ UU ℕ) := embL
/-- The pipeline's component. -/
abbrev EP : Emb UP (MT nD τ sig (HIx 1) (Elt F) ℕ UU ℕ) := (Emb.inl : Emb UP (UP × Counters)).trans embR

/-- The pipeline's ghost state is part of the launch's. -/
instance EP_landsIn : (EP (F := F)).LandsIn (upEmb : UEmb _ (MT nD τ sig (HIx 1) (Elt F) ℕ UU ℕ)) := inferInstance

/-- The SparseCore call's operands and results on device `d`. -/
abbrev xLoc (d : Dev nD) : Loc nD τ sig := (SparseCore.T d).loc main_v7
/-- The second coordinates, as the SparseCore call is handed them. -/
abbrev yLoc (d : Dev nD) : Loc nD τ sig := (SparseCore.T d).loc main_v9
/-- The third coordinates. -/
abbrev zLoc (d : Dev nD) : Loc nD τ sig := (SparseCore.T d).loc main_v11
/-- The neighbours, in edge order. -/
abbrev iLoc (d : Dev nD) : Loc nD τ sig := (SparseCore.T d).loc main_v4
/-- The first result of the SparseCore call. -/
abbrev oxLoc (d : Dev nD) : Loc nD τ sig := (SparseCore.T d).loc main_v12_0
/-- The second result of the SparseCore call. -/
abbrev oyLoc (d : Dev nD) : Loc nD τ sig := (SparseCore.T d).loc main_v12_1
/-- The third result of the SparseCore call. -/
abbrev ozLoc (d : Dev nD) : Loc nD τ sig := (SparseCore.T d).loc main_v12_2

end Cert.Flot
-- ==== Proof.TopK.lean ====
/-
  One grid point of the TensorCore call: the squared distances of a batch's points to 512 of them, and the 32 trips that
  each pick, per column, the nearest point not yet taken. What the point leaves in its result block is stated as a
  function of the two blocks it reads and of the carried squared lengths.
-/
module

public import proofs.«01_k».proof.Proof.Base
public import proofs.«01_k».proof.Proof.Gen.KernelIdeal.Points
public import Idealize.ShloMosaic.Lib.Pipeline.FrameBody

@[expose] public section

set_option maxRecDepth 16384

noncomputable section

namespace Cert.Flot

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Loads and stores of a whole block -/

section Whole

variable {sig' : RefSig} {κ : Kind} {sp : Space} {s : Shape} {e : EltTy} {Val : EltTy → Type}

/-- A rectangle of the whole shape at offset zero places every index where it is. -/
theorem unit_zero_idx (off : Fin s.rank → ℕ) (h0 : ∀ a, off a = 0) (inb : ∀ a, off a + s.size a ≤ s.size a) (x : s.Idx) :
    (Rect.unit (s := s) off s.size inb).idx x = x :=
  funext fun a => Fin.ext (by show off a + 1 * (x a).val = (x a).val; rw [h0]; omega)

/-- A load of the whole block reads the block. -/
theorem load_all (v : View sig' κ sp s e) (f : v.ty.Contents Val) (off : Fin s.rank → ℕ) (h0 : ∀ a, off a = 0)
    (inb : ∀ a, off a + s.size a ≤ s.size a) :
    v.readAt Val (Rect.unit (s := s) off s.size inb).toLoadRect f = v.read Val f :=
  funext fun x => congrArg (v.read Val f) (unit_zero_idx off h0 inb x)

/-- After a store of the whole block the block reads what was stored. -/
theorem store_all (v : View sig' κ sp s e) (f : v.ty.Contents Val) (off : Fin s.rank → ℕ) (h0 : ∀ a, off a = 0)
    (inb : ∀ a, off a + s.size a ≤ s.size a) (w : s.Idx → Val e) (L : List (View.Piece Val s e)) :
    v.read Val (v.writes Val f (⟨Rect.unit (s := s) off s.size inb, w⟩ :: L)) = w :=
  funext fun x => by
    have h := v.read_writes_cons_emb f (Rect.unit (s := s) off s.size inb) w L x
    rwa [show (Rect.unit (s := s) off s.size inb).emb x = x from unit_zero_idx off h0 inb x] at h

end Whole

/-! ## The search as a function -/

/-- The search's state before trip `n`: the distances with the picks so far struck out, the picks, the last pick. -/
def srch (D0 : Vec F S4096x512 .f32) : ℕ → Vec F S4096x512 .f32 × (IVec S32x512 32 × IVec S1x512 32)
  | 0 => (D0, (k0_pay5, k0_pay6))
  | n + 1 => ((k0_pay8 (srch D0 n).2.2 (srch D0 n).1),
      ((if h : n < k0_t1_loop.trips then k0_pay10 ⟨n, h⟩ (srch D0 n).2.1 (srch D0 n).2.2 (srch D0 n).1 else (srch D0 n).2.1),
        k0_pay9 (srch D0 n).2.2 (srch D0 n).1))

/-- The result block of the grid point `i`, from the two blocks read and the squared lengths. -/
def picked (i : grid0.Coords) (v0 : Vec F S1x4096x3 .f32) (v2 : Vec F S1x3x512 .f32) (sq : Vec F S4096x1 .f32) : IVec S1x32x512 32 :=
  k0_pay1 (k0_pay11 i (srch (k0_pay4 v0 v2 sq) k0_t1_loop.trips).2.1)

/-! ## The run of one grid point -/

variable (c : Dev nD)

/-- A memref held whole at contents that read `X`. -/
def holds {sp : Space} {s : Shape} {e : EltTy} (M : Memref sig .tc sp s e) (X : s.Idx → Elt F e) : sProp 𝕄 :=
  iprop(∃ f : Buf (Elt F) (M.view.loc (c.tc : Thread nD τ)), ⌜M.view.read (Elt F) f = X⌝ ∗ (M.view.loc (c.tc : Thread nD τ) ↦{fullShare} f))

/-- Owning a whole memref is holding its buffer. -/
theorem owns_holds {sp : Space} {s : Shape} {e : EltTy} (M : Memref sig .tc sp s e) (h : M.IsWhole) (X : s.Idx → Elt F e) :
    (owns (c.tc : Thread nD τ) M fullShare X : sProp 𝕄) = holds c M X := by
  unfold owns holds
  rw [h.set_eq_univ]

variable (i : grid0.Coords)
  (M2 : Memref sig .tc .vmem S1x4096x3 .f32) (h2 : M2.IsWhole) (M3 : Memref sig .tc .vmem S1x3x512 .f32) (h3 : M3.IsWhole)
  (M4 : Memref sig .tc .vmem S1x32x512 .i32) (h4 : M4.IsWhole) (M5 : Memref sig .tc .vmem S4096x512 .f32) (h5 : M5.IsWhole)
  (M6 : Memref sig .tc .vmem S4096x1 .f32) (h6 : M6.IsWhole)

/-- The loop's invariant: before trip `n` the distance block and the carried values are the search's state. -/
def invS (D0 : Vec F S4096x512 .f32) (n : ℕ) (a : IVec S32x512 32 × IVec S1x512 32) : sProp 𝕄 :=
  iprop(⌜a = (srch D0 n).2⌝ ∗ holds c M5 (srch D0 n).1)

include h2 h3 h4 h5 h6 in
/-- One trip of the search. -/
theorem tripS (D0 : Vec F S4096x512 .f32) (k : Fin k0_t1_loop.trips) (a : IVec S32x512 32 × IVec S1x512 32) :
    invS c M5 D0 k.val a
      ⊢ wp frame (wpE (defs₀ (F := F)) 𝒱₀ (c.tc : Thread nD τ) none) Set.univ
          (k0_t1_body i M2 h2 M3 h3 M4 h4 M5 h5 M6 h6 k a) fun b => invS c M5 D0 (k.val + 1) b := by
  obtain ⟨a8, a9⟩ := a
  unfold invS holds
  iintro ⟨%ha, %f, %hf, H⟩
  obtain ⟨rfl, rfl⟩ := Prod.mk.inj ha
  unfold k0_t1_body
  sl_exec
  sl_step
  have hl : M5.view.readAt (Elt F) (Rect.unit (s := S4096x512) ![0, 0] S4096x512.size inb_S4096x512_S4096x512_0_0).toLoadRect f = (srch D0 k.val).1 :=
    (load_all M5.view f _ (by decide) _).trans hf
  isplitr
  · ipureintro
    rw [hl]
    show _ = ((if h : k.val < k0_t1_loop.trips then _ else _), _)
    rw [dif_pos k.isLt]
  iexists _; isplitr; rotate_left
  · iexact H
  · ipureintro
    rw [hl]
    exact store_all M5.view _ _ (by decide) _ _ _

include h2 h3 h4 h5 h6 in
/-- A grid point that is the first of its batch: it computes the squared lengths itself. -/
theorem body_first (hi : Scalar.cmpi .ne (Scalar.extui (Scalar.cmpi .eq (BitVec.ofNat 32 (i 1).val) 0#32)) 0#32 = 1#1)
    (v0 : Vec F S1x4096x3 .f32) (v2 : Vec F S1x3x512 .f32) :
    iprop(holds c M2 v0 ∗ holds c M3 v2 ∗ (∃ X, holds c M4 X) ∗ (∃ X, holds c M5 X) ∗ (∃ X, holds c M6 X))
      ⊢ wp frame (wpE (defs₀ (F := F)) 𝒱₀ (c.tc : Thread nD τ) none) Set.univ
          (cc0__topk_body i M2 h2 M3 h3 M4 h4 M5 h5 M6 h6) fun _ =>
          iprop(holds c M2 v0 ∗ holds c M3 v2 ∗ holds c M4 (picked i v0 v2 (k0_pay3 v0)) ∗ (∃ X, holds c M5 X) ∗ holds c M6 (k0_pay3 v0)) := by
  rw [cc0__topk_body_eq_skeleton]
  unfold cc0__topk_body_skel
  rw [k0_part1_eq_skeleton]
  unfold k0_part1_skel
  simp only [dif_pos hi]
  iintro ⟨H2, H3, ⟨%x4, H4⟩, ⟨%x5, H5⟩, ⟨%x6, H6⟩⟩
  unfold holds
  icases H2 with ⟨%f2, %hf2, H2⟩
  icases H3 with ⟨%f3, %hf3, H3⟩
  icases H4 with ⟨%f4, -, H4⟩
  icases H5 with ⟨%f5, -, H5⟩
  icases H6 with ⟨%f6, -, H6⟩
  rw [wp_bind]
  sl_exec
  have l2 : M2.view.readAt (Elt F) (Rect.unit (s := S1x4096x3) ![0, 0, 0] S1x4096x3.size inb_S1x4096x3_S1x4096x3_0_0_0).toLoadRect f2 = v0 :=
    (load_all M2.view f2 _ (by decide) _).trans hf2
  have l3 : M3.view.readAt (Elt F) (Rect.unit (s := S1x3x512) ![0, 0, 0] S1x3x512.size inb_S1x3x512_S1x3x512_0_0_0).toLoadRect f3 = v2 :=
    (load_all M3.view f3 _ (by decide) _).trans hf3
  have l6 : body_first.sl.v7 c M2 M6 f2 = k0_pay3 v0 := by
    unfold body_first.sl.v7 body_first.sl.H6_1
    rw [View.readCov_cons_toLoadRect]
    exact congrArg k0_pay3 l2
  sl_for (invS c M5 (k0_pay4 v0 v2 (k0_pay3 v0))) $$ [H5]
  case region =>
    intro k a
    exact tripS c i M2 h2 M3 h3 M4 h4 M5 h5 M6 h6 _ k a
  · unfold invS
    isplitr; · ipureintro; rfl
    unfold holds
    iexists _; isplitr; rotate_left
    · iexact H5
    · ipureintro
      exact (store_all M5.view _ _ (by decide) _ _ _).trans (congr (congr (congrArg k0_pay4 l2) l3) l6)
  iintro %a HI
  unfold invS
  icases HI with ⟨%ha, H5⟩
  unfold holds
  icases H5 with ⟨%g5, -, H5⟩
  sl_exec
  sl_step
  isplitl [H2]
  · iexists f2; isplitr; rotate_left
    · iexact H2
    · ipureintro; exact hf2
  isplitl [H3]
  · iexists f3; isplitr; rotate_left
    · iexact H3
    · ipureintro; exact hf3
  isplitl [H4]
  · iexists _; isplitr; rotate_left
    · iexact H4
    · ipureintro
      refine (store_all M4.view _ _ (by decide) _ _ _).trans ?_
      rw [ha]
      rfl
  isplitl [H5]
  · iexists (M5.view.read (Elt F) g5), g5; isplitr; rotate_left
    · iexact H5
    · ipureintro; rfl
  iexists _; isplitr; rotate_left
  · iexact H6
  · ipureintro
    unfold body_first.sl.H6_1
    exact (store_all M6.view _ _ (by decide) _ _ _).trans (congrArg k0_pay3 l2)

include h2 h3 h4 h5 h6 in
/-- A later grid point of a batch: it finds the squared lengths in the carried block. -/
theorem body_later (hi : ¬ Scalar.cmpi .ne (Scalar.extui (Scalar.cmpi .eq (BitVec.ofNat 32 (i 1).val) 0#32)) 0#32 = 1#1)
    (v0 : Vec F S1x4096x3 .f32) (v2 : Vec F S1x3x512 .f32) (sq : Vec F S4096x1 .f32) :
    iprop(holds c M2 v0 ∗ holds c M3 v2 ∗ (∃ X, holds c M4 X) ∗ (∃ X, holds c M5 X) ∗ holds c M6 sq)
      ⊢ wp frame (wpE (defs₀ (F := F)) 𝒱₀ (c.tc : Thread nD τ) none) Set.univ
          (cc0__topk_body i M2 h2 M3 h3 M4 h4 M5 h5 M6 h6) fun _ =>
          iprop(holds c M2 v0 ∗ holds c M3 v2 ∗ holds c M4 (picked i v0 v2 sq) ∗ (∃ X, holds c M5 X) ∗ holds c M6 sq) := by
  rw [cc0__topk_body_eq_skeleton]
  unfold cc0__topk_body_skel
  rw [k0_part1_eq_skeleton]
  unfold k0_part1_skel
  simp only [dif_neg hi]
  iintro ⟨H2, H3, ⟨%x4, H4⟩, ⟨%x5, H5⟩, H6⟩
  unfold holds
  icases H2 with ⟨%f2, %hf2, H2⟩
  icases H3 with ⟨%f3, %hf3, H3⟩
  icases H4 with ⟨%f4, -, H4⟩
  icases H5 with ⟨%f5, -, H5⟩
  icases H6 with ⟨%f6, %hf6, H6⟩
  rw [wp_bind]
  sl_exec
  have l2 : M2.view.readAt (Elt F) (Rect.unit (s := S1x4096x3) ![0, 0, 0] S1x4096x3.size inb_S1x4096x3_S1x4096x3_0_0_0).toLoadRect f2 = v0 :=
    (load_all M2.view f2 _ (by decide) _).trans hf2
  have l3 : M3.view.readAt (Elt F) (Rect.unit (s := S1x3x512) ![0, 0, 0] S1x3x512.size inb_S1x3x512_S1x3x512_0_0_0).toLoadRect f3 = v2 :=
    (load_all M3.view f3 _ (by decide) _).trans hf3
  have l6 : M6.view.readAt (Elt F) (Rect.unit (s := S4096x1) ![0, 0] S4096x1.size inb_S4096x1_S4096x1_0_0).toLoadRect f6 = sq :=
    (load_all M6.view f6 _ (by decide) _).trans hf6
  sl_for (invS c M5 (k0_pay4 v0 v2 sq)) $$ [H5]
  case region =>
    intro k a
    exact tripS c i M2 h2 M3 h3 M4 h4 M5 h5 M6 h6 _ k a
  · unfold invS
    isplitr; · ipureintro; rfl
    unfold holds
    iexists _; isplitr; rotate_left
    · iexact H5
    · ipureintro
      exact (store_all M5.view _ _ (by decide) _ _ _).trans (congr (congr (congrArg k0_pay4 l2) l3) l6)
  iintro %a HI
  unfold invS
  icases HI with ⟨%ha, H5⟩
  unfold holds
  icases H5 with ⟨%g5, -, H5⟩
  sl_exec
  sl_step
  isplitl [H2]
  · iexists f2; isplitr; rotate_left
    · iexact H2
    · ipureintro; exact hf2
  isplitl [H3]
  · iexists f3; isplitr; rotate_left
    · iexact H3
    · ipureintro; exact hf3
  isplitl [H4]
  · iexists _; isplitr; rotate_left
    · iexact H4
    · ipureintro
      refine (store_all M4.view _ _ (by decide) _ _ _).trans ?_
      rw [ha]
      rfl
  isplitl [H5]
  · iexists (M5.view.read (Elt F) g5), g5; isplitr; rotate_left
    · iexact H5
    · ipureintro; rfl
  iexists _; isplitr; rotate_left
  · iexact H6
  · ipureintro
    exact hf6

end Cert.Flot
-- ==== Proof.Search.lean ====
/-
  The mathematics of the search: the least place at which a column is least, struck out and sought again. The places
  found one after another are the first ones of the column's stable sort.
-/
module

public import Idealize.ShloMosaic.Lib.SortPrefix
public import Mathlib.Data.EReal.Basic
public import Mathlib.Data.Finset.Max

@[expose] public section

noncomputable section

namespace Cert.Flot

open Idealize.ShloMosaic

variable {n : ℕ} [NeZero n]

/-- The places at which a column is least. -/
def leasts (f : Fin n → EReal) : Finset (Fin n) := Finset.univ.filter fun r => ∀ s, f r ≤ f s

/-- A column is least somewhere. -/
theorem leasts_nonempty (f : Fin n → EReal) : (leasts f).Nonempty := by
  obtain ⟨r, -, hr⟩ := Finset.exists_min_image (Finset.univ : Finset (Fin n)) f ⟨0, Finset.mem_univ _⟩
  exact ⟨r, Finset.mem_filter.2 ⟨Finset.mem_univ _, fun s => hr s (Finset.mem_univ _)⟩⟩

/-- The first place at which a column is least. -/
def am (f : Fin n → EReal) : Fin n := (leasts f).min' (leasts_nonempty f)

/-- A column is least at its first least place. -/
theorem am_le (f : Fin n → EReal) (s : Fin n) : f (am f) ≤ f s :=
  (Finset.mem_filter.1 ((leasts f).min'_mem (leasts_nonempty f))).2 s

/-- The first least place is no later than any least place. -/
theorem am_first (f : Fin n → EReal) (r : Fin n) (h : ∀ s, f r ≤ f s) : am f ≤ r :=
  (leasts f).min'_le r (Finset.mem_filter.2 ⟨Finset.mem_univ _, h⟩)

/-- The column with the first `k` places found raised to infinity. -/
def struck (f : Fin n → EReal) : ℕ → Fin n → EReal
  | 0 => f
  | k + 1 => fun r => if r = am (struck f k) then ⊤ else struck f k r

/-- The place found at step `k`. -/
def found (f : Fin n → EReal) (k : ℕ) : Fin n := am (struck f k)

/-- The struck column: infinity at the places found so far, the column elsewhere. -/
theorem struck_apply (f : Fin n → EReal) (k : ℕ) (r : Fin n) :
    struck f k r = if ∃ j < k, found f j = r then ⊤ else f r := by
  induction k with
  | zero => rw [if_neg (by rintro ⟨j, hj, -⟩; omega)]; rfl
  | succ k ih =>
    show (if r = found f k then ⊤ else struck f k r) = _
    by_cases h : r = found f k
    · rw [if_pos h, if_pos ⟨k, Nat.lt_succ_self k, h.symm⟩]
    · rw [if_neg h, ih]
      congr 1
      refine propext ⟨fun ⟨j, hj, e⟩ => ⟨j, hj.trans (Nat.lt_succ_self k), e⟩, fun ⟨j, hj, e⟩ => ⟨j, ?_, e⟩⟩
      rcases Nat.lt_succ_iff_lt_or_eq.1 hj with hj | rfl
      · exact hj
      · exact absurd e.symm h

/-- Of a column below infinity everywhere, the place found at a step before the last place is new. -/
theorem found_new (f : Fin n → EReal) (hf : ∀ r, f r < ⊤) (k : ℕ) (hk : k < n) : ∀ j < k, found f j ≠ found f k := by
  intro j hj e
  obtain ⟨r, hr⟩ : ∃ r : Fin n, ∀ i < k, found f i ≠ r := by
    by_contra hc
    push Not at hc
    have hs : (Finset.univ : Finset (Fin n)) ⊆ (Finset.range k).image (found f) := fun r _ => by
      obtain ⟨i, hi, e⟩ := hc r
      exact Finset.mem_image.2 ⟨i, Finset.mem_range.2 hi, e⟩
    have h1 := Finset.card_le_card hs
    have h2 := Finset.card_image_le (s := Finset.range k) (f := found f)
    rw [Finset.card_univ, Fintype.card_fin] at h1
    rw [Finset.card_range] at h2
    omega
  have h1 := am_le (struck f k) r
  rw [struck_apply f k r, if_neg (by rintro ⟨i, hi, e⟩; exact hr i hi e), struck_apply f k (am (struck f k)),
    if_pos ⟨j, hj, e⟩] at h1
  exact absurd (hf r) (not_lt.2 h1)

/-- The order of a column's places: by value, equals by position. -/
def earlier (f : Fin n → EReal) (k k' : Fin n) : Bool :=
  decide (f k < f k') || (decide (f k = f k') && decide (k < k'))

/-- The place found comes no later than a place not found before. -/
theorem found_first (f : Fin n → EReal) (hf : ∀ r, f r < ⊤) (k : ℕ) (hk : k < n) (r : Fin n) (hr : ∀ j < k, found f j ≠ r)
    (hne : found f k ≠ r) : earlier f (found f k) r = true := by
  have ek : struck f k (found f k) = f (found f k) := by
    rw [struck_apply, if_neg (by rintro ⟨i, hi, e⟩; exact found_new f hf k hk i hi e)]
  have er : struck f k r = f r := by
    rw [struck_apply, if_neg (by rintro ⟨i, hi, e⟩; exact hr i hi e)]
  have h1 := am_le (struck f k) r
  rw [show am (struck f k) = found f k from rfl, ek, er] at h1
  unfold earlier
  rcases h1.lt_or_eq with h | h
  · simp [h]
  · have h2 : found f k ≤ r := am_first (struck f k) r fun s => by
      rw [er, ← h, ← ek]; exact am_le (struck f k) s
    simp [h, lt_of_le_of_ne h2 hne]

/-- Earlier is not later. -/
theorem earlier_asymm (f : Fin n → EReal) (a b : Fin n) (h : earlier f a b = true) : earlier f b a = false := by
  unfold earlier at *
  simp only [Bool.or_eq_true, decide_eq_true_eq, Bool.and_eq_true, Bool.or_eq_false_iff, decide_eq_false_iff_not,
    Bool.and_eq_false_iff] at *
  rcases h with h | ⟨h, h'⟩
  · exact ⟨not_lt.2 h.le, .inl h.ne'⟩
  · exact ⟨not_lt.2 h.le, .inr (not_lt.2 h'.le)⟩

/-- A place of the first `k` of the column's sort is the place found at that step. -/
theorem sorted_found (f : Fin n → EReal) (hf : ∀ r, f r < ⊤) (k : ℕ) (hk : k ≤ n) (i : Fin k) :
    sortedFrom (earlier f) (i.castLE hk) = found f i.val := by
  have hB : StrictTotalBefore (earlier f) :=
    StrictTotalBefore.of_key_then_position (κ := EReal) (fun a b => decide (a < b)) f (fun a => by simp)
      (fun a b c h1 h2 => by simp only [decide_eq_true_eq] at *; exact h1.trans h2)
      (fun a b => by
        simp only [decide_eq_true_eq]
        first | exact lt_trichotomy a b | (rcases lt_trichotomy a b with h | h | h <;> simp [h]))
  refine hB.sortedFrom_eq_of_prefix hk (fun j => found f j.val) ?_ ?_ ?_ i
  · intro a b h
    by_contra hne
    rcases lt_or_gt_of_ne (fun e => hne (Fin.ext e) : a.val ≠ b.val) with hl | hl
    · exact found_new f hf b.val (b.isLt.trans_le hk) a.val hl h
    · exact found_new f hf a.val (a.isLt.trans_le hk) b.val hl h.symm
  · intro a b hab
    refine earlier_asymm f _ _ (found_first f hf a.val (a.isLt.trans_le hk) _ (fun j hj e => ?_) fun e => ?_)
    · exact found_new f hf b.val (b.isLt.trans_le hk) j (hj.trans hab) e
    · exact found_new f hf b.val (b.isLt.trans_le hk) a.val hab e
  · intro a p hp
    exact earlier_asymm f _ _ (found_first f hf a.val (a.isLt.trans_le hk) p
      (fun j hj e => hp ⟨j, hj.trans a.isLt⟩ e) (hp a))

/-! ## A stable sort by value is the sort by value and position -/

/-- Inserting looks only at whether each element sorts before the one inserted. -/
theorem insert_same {ι : Type} (R R' : ι → ι → Bool) (a : ι) (l : List ι) (h : ∀ b ∈ l, R b a = R' b a) :
    insertBefore R a l = insertBefore R' a l := by
  induction l with
  | nil => rfl
  | cons b l ih =>
    unfold insertBefore
    rw [h b (List.mem_cons_self ..), ih fun c hc => h c (List.mem_cons_of_mem _ hc)]

/-- An inserted list holds the element and the list's. -/
theorem mem_insert {ι : Type} (R : ι → ι → Bool) (a x : ι) (l : List ι) (h : x ∈ insertBefore R a l) : x = a ∨ x ∈ l := by
  induction l with
  | nil => exact .inl (List.mem_singleton.1 h)
  | cons b l ih =>
    unfold insertBefore at h
    split at h
    · rcases List.mem_cons.1 h with rfl | h
      · exact .inr (List.mem_cons_self ..)
      · rcases ih h with h | h
        · exact .inl h
        · exact .inr (List.mem_cons_of_mem _ h)
    · exact List.mem_cons.1 h

/-- A sorted list holds only the list's elements. -/
theorem mem_sort {ι : Type} (R : ι → ι → Bool) (x : ι) (l : List ι) (h : x ∈ stableSort R l) : x ∈ l := by
  induction l with
  | nil => exact h
  | cons a l ih =>
    rcases mem_insert R a x _ h with rfl | h
    · exact List.mem_cons_self ..
    · exact List.mem_cons_of_mem _ (ih h)

/-- Two orders that agree on whether a later element goes before an earlier one sort alike. -/
theorem sort_same {ι : Type} (R R' : ι → ι → Bool) (l : List ι) (h : l.Pairwise fun a b => R b a = R' b a) :
    stableSort R l = stableSort R' l := by
  induction l with
  | nil => rfl
  | cons a l ih =>
    obtain ⟨h1, h2⟩ := List.pairwise_cons.1 h
    show insertBefore R a (stableSort R l) = insertBefore R' a (stableSort R' l)
    rw [← ih h2]
    exact insert_same R R' a _ fun b hb => h1 b (mem_sort R b l hb)

/-- The stable sort by value is the sort by value, equals by position. -/
theorem sorted_value (f : Fin n → EReal) (R : Fin n → Fin n → Bool) (hR : ∀ a b, R a b = decide (f a < f b)) (k : Fin n) :
    sortedFrom R k = sortedFrom (earlier f) k := by
  have h : sortPositions n R = sortPositions n (earlier f) :=
    sort_same R (earlier f) _ ((List.pairwise_lt_finRange n).imp fun {a b} hab => by
      rw [hR]; unfold earlier; simp [not_lt.2 (le_of_lt hab)])
  unfold sortedFrom
  simp only [List.get_eq_getElem, Fin.val_cast]
  exact List.getElem_of_eq h _

end Cert.Flot
-- ==== Proof.Pick.lean ====
/-
  The nearest-point search at the ideal instance, read entry by entry.
-/
module

public import proofs.«01_k».proof.Proof.TopK
public import proofs.«01_k».proof.Proof.Search
public import Idealize.ShloMosaic.Lib.Pointwise
public import Idealize.ShloMosaic.Lib.PlanTiles.Rows

@[expose] public section

set_option maxRecDepth 16384

noncomputable section

namespace Cert.Flot

open Cert.KernelIdeal Cert.KernelIdeal.Gen

open Idealize.ShloMosaic

/-- The pattern of positive infinity is infinity. -/
theorem top_word : Ideal.ofBits FTy.f32 0x7F800000#32 = ⊤ := by simp [Ideal.ofBits, Ideal.ieee]

/-- A one-bit choice is a choice by its condition. -/
theorem choose_bit {α : Type} (c : Bool) (x y : α) : Scalar.select (BitVec.ofBool c) x y = if c = true then x else y := by
  cases c <;> rfl

/-- The struck-out distances at an entry: infinity at the last pick, the distance elsewhere. -/
theorem pay7_apply (q : IVec S1x512 32) (D : Vec Ideal S4096x512 .f32) (r : Fin 4096) (l : Fin 512) :
    k0_pay7 q D (ix2 r l) = if BitVec.ofNat 32 r.val = q (ix2 0 l) then ⊤ else D (ix2 r l) := by
  pointwise [k0_pay7]
  rw [top_word]
  show Scalar.select (BitVec.ofBool _) _ _ = _
  rw [choose_bit]
  simp only [beq_iff_eq]

/-- The distances left in the block are the struck-out ones. -/
theorem pay8_eq (q : IVec S1x512 32) (D : Vec Ideal S4096x512 .f32) : k0_pay8 q D = k0_pay7 q D := by
  funext j
  idx_vars j
  pointwise [k0_pay8]

/-- A minimum of small numbers held as words is the word of their minimum. -/
theorem fold_words {ι : Type} [DecidableEq ι] (s : Finset ι) (h : ι → ℕ) (z : ℕ) (hz : z < 2 ^ 31) (hh : ∀ i, h i < 2 ^ 31) :
    s.fold IntOp.minsi (BitVec.ofNat 32 z) (fun i => BitVec.ofNat 32 (h i)) = BitVec.ofNat 32 (s.fold min z h)
      ∧ s.fold min z h < 2 ^ 31 := by
  induction s using Finset.induction_on with
  | empty => exact ⟨rfl, hz⟩
  | insert a s ha ih =>
    rw [Finset.fold_insert ha, Finset.fold_insert ha, ih.1, PlanTiles.minsi_word (hh a) ih.2, min_comm]
    exact ⟨rfl, lt_of_le_of_lt (min_le_left _ _) (hh a)⟩

/-- The pick of a trip: the first place at which the struck-out column is least. -/
theorem pay9_apply (q : IVec S1x512 32) (D : Vec Ideal S4096x512 .f32) (l : Fin 512) :
    k0_pay9 q D (ix2 0 l) = BitVec.ofNat 32 (am fun r : Fin 4096 => k0_pay7 q D (ix2 r l)).val := by
  pointwise [k0_pay9]
  rw [top_word]
  generalize hf : (fun r : Fin 4096 => k0_pay7 q D (ix2 r l)) = f
  have hmin : ∀ x : Fin 4096, f x = Finset.fold min ⊤ f Finset.univ ↔ ∀ s, f x ≤ f s := fun x => by
    constructor
    · intro h s
      rw [h]
      exact (Finset.fold_min_le _).2 (.inr ⟨s, Finset.mem_univ _, le_rfl⟩)
    · intro h
      refine le_antisymm ((Finset.le_fold_min _).2 ⟨le_top, fun s _ => h s⟩) ((Finset.fold_min_le _).2 (.inr ⟨x, Finset.mem_univ _, le_rfl⟩))
  have e1 : (fun x : Fin 4096 => if k0_pay7 q D (ix2 x l) = Finset.fold min ⊤ f Finset.univ then BitVec.ofNat 32 x.val else 4096#32)
      = fun x => BitVec.ofNat 32 (if ∀ s, f x ≤ f s then x.val else 4096) := by
    funext x
    rw [show k0_pay7 q D (ix2 x l) = f x from congrFun hf x]
    by_cases h : ∀ s, f x ≤ f s
    · rw [if_pos ((hmin x).2 h), if_pos h]
    · rw [if_neg fun e => h ((hmin x).1 e), if_neg h]
  rw [e1]
  refine ((fold_words Finset.univ (fun x : Fin 4096 => if ∀ s, f x ≤ f s then x.val else 4096) 2147483647 (by norm_num)
    fun x => by have := x.isLt; split <;> omega).1).trans (congrArg _ (le_antisymm ?_ ?_))
  · refine (Finset.fold_min_le _).2 (.inr ⟨am f, Finset.mem_univ _, ?_⟩)
    rw [if_pos (am_le f)]
  · refine (Finset.le_fold_min _).2 ⟨by have := (am f).isLt; omega, fun x _ => ?_⟩
    split
    · exact am_first f x ‹_›
    · exact (am f).isLt.le

/-- A trip's picks go into its own row of the picks. -/
theorem pay10_apply (q : IVec S1x512 32) (D : Vec Ideal S4096x512 .f32) (t : Fin k0_t1_loop.trips) (A : IVec S32x512 32) (r : Fin 32) (l : Fin 512) :
    k0_pay10 t A q D (ix2 r l) = if r.val = t.val then k0_pay9 q D (ix2 0 l) else A (ix2 r l) := by
  pointwise [k0_pay10]
  have ht : t.val < 32 := t.isLt
  rw [show Scf.iv 0#32 1#32 t.val = BitVec.ofNat 32 t.val by
    simp [Scf.iv]]
  show Scalar.select (BitVec.ofBool _) _ _ = _
  rw [choose_bit]
  congr 1
  simp only [beq_iff_eq]
  refine propext ⟨fun h => ?_, fun h => by rw [h]⟩
  have := congrArg BitVec.toNat h
  simp only [BitVec.toNat_ofNat] at this
  omega

/-- The result of a grid point at an entry: the pick, with the batch's first place added. -/
theorem pay1_apply (i : grid0.Coords) (A : IVec S32x512 32) (r : Fin 32) (l : Fin 512) :
    k0_pay1 (k0_pay11 i A) (ix3 0 r l) = A (ix2 r l) + BitVec.ofNat 32 (i 0).val * 4096#32 := by
  pointwise [k0_pay1, k0_pay11]
  rfl

/-- The distances at an entry: the squared lengths of both points, less twice their product. -/
theorem pay4_apply (v0 : Vec Ideal S1x4096x3 .f32) (v2 : Vec Ideal S1x3x512 .f32) (r : Fin 4096) (l : Fin 512) :
    k0_pay4 v0 v2 (k0_pay3 v0) (ix2 r l)
      = ∑ x, v0 (ix3 0 r x) * v0 (ix3 0 r x) + ∑ x, v2 (ix3 0 x l) * v2 (ix3 0 x l) -
          Ideal.ofBits FTy.f32 0x40000000#32 * ∑ x, v0 (ix3 0 r x) * v2 (ix3 0 x l) := by
  pointwise [k0_pay4, k0_pay3, k0_pay2]

/-- The distances after a trip. -/
theorem srch_dist (D0 : Vec Ideal S4096x512 .f32) (n : ℕ) : (srch D0 (n + 1)).1 = k0_pay8 (srch D0 n).2.2 (srch D0 n).1 := by
  rw [srch]

/-- The last pick after a trip. -/
theorem srch_last (D0 : Vec Ideal S4096x512 .f32) (n : ℕ) : (srch D0 (n + 1)).2.2 = k0_pay9 (srch D0 n).2.2 (srch D0 n).1 := by
  rw [srch]

/-- The picks after a trip. -/
theorem srch_picks (D0 : Vec Ideal S4096x512 .f32) (n : ℕ) (h : n < k0_t1_loop.trips) :
    (srch D0 (n + 1)).2.1 = k0_pay10 ⟨n, h⟩ (srch D0 n).2.1 (srch D0 n).2.2 (srch D0 n).1 := by
  rw [srch]
  exact dif_pos h

/-- A place's word is the word of another place only if they are one. -/
theorem word_inj (a b : Fin 4096) : BitVec.ofNat 32 a.val = BitVec.ofNat 32 b.val ↔ a = b := by
  refine ⟨fun h => ?_, fun h => by rw [h]⟩
  have h2 := congrArg BitVec.toNat h
  simp only [BitVec.toNat_ofNat] at h2
  exact Fin.ext (by omega)

/-- Before trip `n` the struck-out distances are the column struck `n` times. -/
theorem srch_struck (D0 : Vec Ideal S4096x512 .f32) (l : Fin 512) (n : ℕ) :
    (fun r : Fin 4096 => k0_pay7 (srch D0 n).2.2 (srch D0 n).1 (ix2 r l)) = struck (fun r => D0 (ix2 r l)) n := by
  induction n with
  | zero =>
    funext r
    rw [pay7_apply]
    refine if_neg fun h => ?_
    have h2 : BitVec.ofNat 32 r.val = 4294967295#32 := h
    have h3 := congrArg BitVec.toNat h2
    simp only [BitVec.toNat_ofNat] at h3
    omega
  | succ n ih =>
    funext r
    rw [pay7_apply, srch_last, srch_dist, pay9_apply, ih, pay8_eq, congrFun ih r]
    simp only [word_inj]
    rfl

/-- The last pick after trip `n` is the place found at that step. -/
theorem srch_found (D0 : Vec Ideal S4096x512 .f32) (l : Fin 512) (n : ℕ) :
    k0_pay9 (srch D0 n).2.2 (srch D0 n).1 (ix2 0 l) = BitVec.ofNat 32 (found (fun r : Fin 4096 => D0 (ix2 r l)) n).val := by
  rw [pay9_apply, srch_struck]
  rfl

/-- After `n` trips the picks' rows before `n` are the places found. -/
theorem srch_col (D0 : Vec Ideal S4096x512 .f32) (l : Fin 512) (n : ℕ) (hn : n ≤ k0_t1_loop.trips) (k : Fin 32) (hk : k.val < n) :
    (srch D0 n).2.1 (ix2 k l) = BitVec.ofNat 32 (found (fun r : Fin 4096 => D0 (ix2 r l)) k.val).val := by
  induction n with
  | zero => exact absurd hk (Nat.not_lt_zero _)
  | succ n ih =>
    rw [srch_picks D0 n hn, pay10_apply]
    split
    · rename_i e
      rw [srch_found D0 l n, show k.val = n from e]
    · rename_i e
      exact ih (Nat.le_of_succ_le hn) (lt_of_le_of_ne (Nat.lt_succ_iff.1 hk) e)

/-- A grid point's result at an entry: the place found at that step in the column of distances, plus the batch's first
    place. -/
theorem picked_apply (i : grid0.Coords) (v0 : Vec Ideal S1x4096x3 .f32) (v2 : Vec Ideal S1x3x512 .f32) (k : Fin 32) (l : Fin 512) :
    picked i v0 v2 (k0_pay3 v0) (ix3 0 k l)
      = BitVec.ofNat 32 (found (fun r : Fin 4096 => k0_pay4 v0 v2 (k0_pay3 v0) (ix2 r l)) k.val).val
          + BitVec.ofNat 32 (i 0).val * 4096#32 := by
  unfold picked
  rw [pay1_apply]
  exact congrArg (· + _) (srch_col _ l _ le_rfl k k.isLt)

end Cert.Flot
-- ==== Proof.Region.lean ====
/-
  The TensorCore call as a region of the program: its proof data (what each window's block holds at each grid point and
  the carried squared lengths), the body obligation at every point, and the region entered while the TensorCore still
  owes the start signals of the SparseCore call.
-/
module

public import proofs.«01_k».proof.Proof.TopK

@[expose] public section

set_option maxRecDepth 16384

noncomputable section

namespace Cert.Flot

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

/-- The host's valuation when the call is entered. -/
abbrev HostVal (F : FTy → Type) : Type := Valuation τ sig (Elt F)

/-- The batch's points and the 512 points of a grid point, as the two windows read them. -/
def blk0 (W : HostVal F) (t : Fin cfg0.N) : Vec F S1x4096x3 .f32 := ((cfg0.win 0).blk t).view.read (Elt F) (W (Proc.devRef .tc main_arg0))
/-- The block of the transposed points at a grid point. -/
def blk1 (W : HostVal F) (t : Fin cfg0.N) : Vec F S1x3x512 .f32 := ((cfg0.win 1).blk t).view.read (Elt F) (W (Proc.devRef .tc main_v1))

/-- The result block of a grid point. -/
def blk2 (W : HostVal F) (t : Fin cfg0.N) : IVec S1x32x512 32 := picked (grid0.coords t) (blk0 W t) (blk1 W t) (k0_pay3 (blk0 W t))

/-- Between grid points: the two scratch blocks, the squared lengths those of the batch just worked on. -/
def phi (W : HostVal F) (c : Dev nD) (n : ℕ) : sProp 𝕄 :=
  iprop((∃ X, holds c (Memref.whole cc0_scratch0) X)
    ∗ ∃ X, ⌜∀ s : Fin cfg0.N, s.val + 1 = n → X = k0_pay3 (blk0 W s)⌝ ∗ holds c (Memref.whole cc0_scratch1) X)

/-- The call's proof data. -/
def dat (W : HostVal F) (c : Dev nD) : Dat τ (Elt F) (HIx 1) ℕ UU ℕ cfg0 c where
  A w := W (Proc.devRef .tc (Pipeline.arrRef spec0 w))
  after w t := match w with
    | ⟨0, _⟩ => blk0 W t
    | ⟨1, _⟩ => blk1 W t
    | ⟨2, _⟩ => blk2 W t
  Φ t := phi W c t.val
  q _ := fullShare
  owed _ := (K (F := F)).Otc c 0
  recorded _ := {p | p.2 = none}

variable (W : HostVal F) (c : Dev nD)

/-- The first window holds its block when the body starts. -/
theorem before_0 (t : Fin cfg0.N) (d : (cfg0.win 0).block.Idx → Elt F (cfg0.win 0).elt) : (dat W c).before 0 t d = blk0 W t :=
  (dat W c).before_in_eq_fetched 0 rfl (fun _ => rfl) (fun _ _ _ => rfl) (fun _ => rfl) t d

/-- The second window holds its block when the body starts. -/
theorem before_1 (t : Fin cfg0.N) (d : (cfg0.win 1).block.Idx → Elt F (cfg0.win 1).elt) : (dat W c).before 1 t d = blk1 W t :=
  (dat W c).before_in_eq_fetched 1 rfl (fun _ => rfl) (fun _ _ _ => rfl) (fun _ => rfl) t d

/-- Inside a batch the batch's block does not change. -/
theorem blk0_prev (t s : Fin cfg0.N) (h : t.val % 8 ≠ 0) (hs : s.val + 1 = t.val) : blk0 W s = blk0 W t := by
  have hf : (cfg0.win 0).fetch t = false := by
    rw [← Bool.not_eq_true]; exact fun e => h ((fetch0_0 t).mp e)
  obtain ⟨-, hix⟩ := (cfg0.win 0).index_eq_of_fetch rfl t hf
  have e : (⟨t.val - 1, Nat.lt_of_le_of_lt (Nat.sub_le _ _) t.isLt⟩ : Fin cfg0.N) = s := Fin.ext (by show t.val - 1 = s.val; omega)
  rw [e] at hix
  exact (dat W 0).fetched_congr 0 hix.symm rfl (fun _ => FloatOps.ofBits .f32 0)

/-- The second grid coordinate is zero exactly at a batch's first point. -/
theorem first_iff : ∀ t : Fin grid0.N,
    (Scalar.cmpi .ne (Scalar.extui (Scalar.cmpi .eq (BitVec.ofNat 32 (grid0.coords t 1).val) 0#32) : BitVec 32) 0#32 = 1#1) ↔ t.val % 8 = 0 := by
  decide

/-- Every grid point's body meets its obligation. -/
theorem obligation : BodyObligation (dat W c) (defs₀ (F := F)) 𝒱₀ none Set.univ := fun t => by
  rw [bigSep_W0, bigSep_W0]
  rw [show (dat W c).Φ t.castSucc = phi W c t.val from rfl, show (dat W c).Φ t.succ = phi W c (t.val + 1) from rfl,
    show (dat W c).owesAt none t.succ = (dat W c).owesAt none t.castSucc from rfl]
  have e0 : ∀ X, (owns (c.tc : Thread nD τ) (st0_0 t) fullShare X : sProp 𝕄) = holds c (st0_0 t) X := fun X => owns_holds c _ (stage_whole0 0 _) X
  have e1 : ∀ X, (owns (c.tc : Thread nD τ) (st0_1 t) fullShare X : sProp 𝕄) = holds c (st0_1 t) X := fun X => owns_holds c _ (stage_whole0 1 _) X
  have e2 : ∀ X, (owns (c.tc : Thread nD τ) (st0_2 t) fullShare X : sProp 𝕄) = holds c (st0_2 t) X := fun X => owns_holds c _ (stage_whole0 2 _) X
  have hbody : (defs₀ (F := F) .tc cfg0.body (cfg0.bodyArgs t (cfg0.slots t))) = bodyAt0 t := rfl
  rw [hbody]
  unfold phi
  iintro ⟨⟨H5, ⟨%x6, %hx6, H6⟩⟩, Howes, ⟨%d0, H0⟩, ⟨%d1, H1⟩, ⟨%d2, H2⟩⟩
  ihave H0 := (Entails.of_eq ((congrArg _ (before_0 W c t d0)).trans (e0 (blk0 W t)))) $$ H0
  ihave H1 := (Entails.of_eq ((congrArg _ (before_1 W c t d1)).trans (e1 (blk1 W t)))) $$ H1
  ihave H2 := (Entails.of_eq (e2 _)) $$ H2
  have key : iprop(holds c (st0_0 t) (blk0 W t) ∗ holds c (st0_1 t) (blk1 W t) ∗ (∃ X, holds c (st0_2 t) X)
        ∗ (∃ X, holds c (Memref.whole cc0_scratch0) X) ∗ holds c (Memref.whole cc0_scratch1) x6)
      ⊢ wp frame (wpE (defs₀ (F := F)) 𝒱₀ (c.tc : Thread nD τ) none) Set.univ (bodyAt0 t) fun _ =>
        (iprop(holds c (st0_0 t) (blk0 W t) ∗ holds c (st0_1 t) (blk1 W t) ∗ holds c (st0_2 t) (blk2 W t)
          ∗ (∃ X, holds c (Memref.whole cc0_scratch0) X) ∗ holds c (Memref.whole cc0_scratch1) (k0_pay3 (blk0 W t))) : sProp 𝕄) := by
    by_cases h8 : t.val % 8 = 0
    · have h := body_first c (grid0.coords t) (st0_0 t) (stage_whole0 0 _) (st0_1 t) (stage_whole0 1 _) (st0_2 t) (stage_whole0 2 _)
        (Memref.whole cc0_scratch0) (Memref.isWhole_whole _) (Memref.whole cc0_scratch1) (Memref.isWhole_whole _) ((first_iff t).mpr h8) (blk0 W t) (blk1 W t)
      refine BIBase.Entails.trans ?_ h
      iintro ⟨H0, H1, H2, H5, H6⟩
      isplitl [H0]; · iexact H0
      isplitl [H1]; · iexact H1
      isplitl [H2]; · iexact H2
      isplitl [H5]; · iexact H5
      iexists x6; iexact H6
    · have hp : t.val - 1 < cfg0.N := Nat.lt_of_le_of_lt (Nat.sub_le _ _) t.isLt
      have e6 : x6 = k0_pay3 (blk0 W t) :=
        (hx6 ⟨t.val - 1, hp⟩ (by show t.val - 1 + 1 = t.val; omega)).trans
          (congrArg k0_pay3 (blk0_prev W t ⟨t.val - 1, hp⟩ h8 (by show t.val - 1 + 1 = t.val; omega)))
      rw [e6]
      exact body_later c (grid0.coords t) (st0_0 t) (stage_whole0 0 _) (st0_1 t) (stage_whole0 1 _) (st0_2 t) (stage_whole0 2 _)
        (Memref.whole cc0_scratch0) (Memref.isWhole_whole _) (Memref.whole cc0_scratch1) (Memref.isWhole_whole _) (fun e => h8 ((first_iff t).mp e)) (blk0 W t) (blk1 W t) (k0_pay3 (blk0 W t))
  iapply (wp_wand_r _ _ _)
  isplitl [H0 H1 H2 H5 H6]
  · iapply key
    isplitl [H0]; · iexact H0
    isplitl [H1]; · iexact H1
    isplitl [H2]; · iexists _; iexact H2
    isplitl [H5]; · iexact H5
    iexact H6
  iintro %_ ⟨H0, H1, H2, H5, H6⟩
  isplitl [H5 H6]
  · isplitl [H5]; · iexact H5
    iexists k0_pay3 (blk0 W t); isplitr
    · ipureintro
      intro s hs
      rw [show s = t from Fin.ext (by omega)]
    · iexact H6
  isplitl [Howes]; · iexact Howes
  isplitl [H0]; · iapply (Entails.of_eq (e0 (blk0 W t)).symm); iexact H0
  isplitl [H1]; · iapply (Entails.of_eq (e1 (blk1 W t)).symm); iexact H1
  iapply (Entails.of_eq (e2 (blk2 W t)).symm); iexact H2

end Cert.Flot
-- ==== Proof.Enter.lean ====
/-
  The TensorCore call entered from the host's buffers: the region record over the proof data, and the call's step rule.
-/
module

public import proofs.«01_k».proof.Proof.Region

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation RegionSeg arrRefs afterRegion arrays_held)

variable {F : FTy → Type} [FloatOps F]

local notation "𝕄" => MT nD τ sig (HIx 1) (Elt F) ℕ UU ℕ

/-- The pipeline prefetches no table. -/
abbrev adm : (p : Fin 1) → (pcfgs (F := F) p).Adm := fun p => (cfgs p).toPCfg_adm

/-- The proof data of the one pipeline on every device. -/
def pdats (W : Dev nD → HostVal F) : (p : Fin 1) → (c : Dev nD) → Dat τ (Elt F) (HIx 1) ℕ UU ℕ (Pipeline.pin (pcfgs (F := F)) adm p) c
  | ⟨0, _⟩ => fun c => dat (W c) c

/-- What the TensorCore owes before the SparseCore call, all its recorded waits at the level of the pipeline's own cells. -/
def owing (c : Dev nD) : sProp 𝕄 :=
  iprop(∃ Wt, ⌜(K (F := F)).WBelow (T c) Wt 0⌝ ∗ owes (T c) ((K (F := F)).Otc c 0) Wt)

/-- Waits at level zero are exactly waits outside the handshakes. -/
theorem below_zero (c : Dev nD) (p : SemLoc sig × HIx 1) : (K (F := F)).lev (T c, p.1) p.2 ≤ 0 ↔ p.2 = none := by
  obtain ⟨g, ι⟩ := p
  cases ι with
  | none => exact ⟨fun _ => rfl, fun _ => le_of_eq rfl⟩
  | some q => exact ⟨fun h => absurd h (Nat.not_succ_le_zero _), fun h => nomatch h⟩

/-- The host buffers a call can name. -/
abbrev hostRefs : Finset (DevRef τ sig) := Pipeline.ucRefs τ sig

/-- The arrays of the TensorCore call are among the buffers of the host. -/
theorem hostRefs_of_arr : arrRefs (τ := τ) spec0 ⊆ hostRefs :=
  Pipeline.arrRefs_sub_ucRefs spec0 (by decide)

set_option backward.isDefEq.respectTransparency.types false in
/-- The TensorCore call as one region, entered from all host buffers at `W` and left with its result array at its final contents. -/
def reg (W : Dev nD → HostVal F) :
    RegionSeg (pcfgs (F := F)) adm (pdats W) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation (W c) c).loose
  hwaits c := Pipeline.cellsWaits_of_cut (Pipeline.pin (pcfgs (F := F)) adm) (pdats W) none 0 c 0 ((K (F := F)).Otc c 0) (fun _ => rfl)
    (fun _ _ => Finset.mem_univ _) (fun _ _ => le_of_eq rfl)
    (fun _ _ h => ⟨Finset.mem_univ _, lt_of_lt_of_le (Nat.succ_pos _) (SparseCore.Cfg.lev_of_Otc_pos h)⟩)
  pre c := iprop(held (T c) hostRefs (W c) ∗ owing (F := F) c)
  post c := iprop(held (T c) hostRefs (afterRegion (pdats W 0 c) (W c)) ∗ owing (F := F) c)
  X _ := BI.emp
  Y _ := BI.emp
  Z c := held (T c) (hostRefs \ arrRefs spec0) (W c)
  hentry c := by
    rw [Pipeline.ownSems0_none, Pipeline.prefHeld_of_none _ rfl]
    rw [StableHlo.held_sub_split (T c) hostRefs_of_arr (W c),
      ← arrays_held (pcfgs (F := F)) adm (pdats W) 0 launch0.toP c ((pdats W 0 c).share_full fun _ => rfl) (pdats W 0 c).A (W c) (fun _ => rfl)]
    unfold owing
    iintro ⟨⟨⟨Ha, HZ⟩, ⟨%Wt, %hW, HO⟩⟩, -, -⟩
    imodintro
    isplitl [Ha]; · iexact Ha
    isplitr; · iempintro
    isplitl [HO]
    · unfold Dat.owesAt Pipeline.owesWithin
      iexists Wt; isplitr
      · ipureintro; exact fun p hp => Or.inl ((below_zero (F := F) c p).mp (hW p hp))
      iexact HO
    isplitr; · iempintro
    iexact HZ
  hin c := by
    rw [show (pdats W 0 c).Φ 0 = phi (W c) c 0 from rfl, scopedRest0_eq c]
    unfold phi holds
    iintro ⟨-, -, ⟨%f, H5⟩, ⟨%g, H6⟩⟩
    isplitl [H5]
    · iexists _; iexists f; isplitr
      · ipureintro; rfl
      iexact H5
    · iexists _; isplitr; rotate_left
      · iexists g; isplitr
        · ipureintro; rfl
        iexact H6
      · ipureintro; exact fun s hs => absurd hs (Nat.succ_ne_zero _)
  hout c := by
    rw [Pipeline.ownSems0_none, show (pdats W 0 c).Φ (Fin.last _) = phi (W c) c 16 from rfl, scopedRest0_eq c]
    unfold phi holds
    iintro ⟨⟨%x, ⟨%f, -, H5⟩⟩, ⟨%y, -, ⟨%g, -, H6⟩⟩⟩
    isplitr; · iempintro
    isplitr; · iempintro
    isplitl [H5]
    · iexists f; iexact H5
    · iexists g; iexact H6
  hexit c := by
    have ha := arrays_held (pcfgs (F := F)) adm (pdats W) 0 launch0.toP c ((pdats W 0 c).share_full fun _ => rfl)
      (fun w => (pdats W 0 c).arrAt w (Pipeline.pin (pcfgs (F := F)) adm 0).N)
      (afterRegion (pdats W 0 c) (W c)) (fun w => (Pipeline.afterRegion_arr (pdats W 0 c) (W c) (launch0.toP (Val := Elt F)).win.arr_inj w).symm)
    rw [StableHlo.held_sub_split (T c) hostRefs_of_arr (afterRegion (pdats W 0 c) (W c)), ← ha,
      StableHlo.held_congr (T c) (Pipeline.afterRegion_off (pdats W 0 c) (W c) hostRefs)]
    unfold owing
    iintro ⟨Ha, HO, -, HZ⟩
    imodintro
    isplitl [Ha HZ]
    · isplitl [Ha]; · iexact Ha
      iexact HZ
    · unfold Dat.owesAt Pipeline.owesWithin
      icases HO with ⟨%Wt, %hW, HO⟩
      iexists Wt; isplitr
      · ipureintro
        intro p hp
        refine (below_zero (F := F) c p).mpr ?_
        rcases hW hp with h | ⟨w, s, h⟩
        · exact h
        · rw [h]
      iexact HO

/-- The TensorCore call's line of the host program. -/
theorem wp_topk (W : Dev nD → HostVal F) [∀ e, Nonempty (Elt F e)] (c : Dev nD) (Q : Unit → sProp 𝕄) :
    iprop(((boundary (T c) ∗ held (T c) hostRefs (afterRegion (pdats W 0 c) (W c)) ∗ owing (F := F) c) -∗ Q ())
      ∗ boundary (T c) ∗ (held (T c) hostRefs (W c) ∗ owing (F := F) c) ∗ levAts (K (F := F)).L (K (F := F)).lev
      ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c) none) Set.univ (Prog.lift (.customCall (SparseCore.inner (Pipeline.entry 0)) ())) Q := by
  have e1 : (reg W).pre c = iprop(held (T c) hostRefs (W c) ∗ owing (F := F) c) := rfl
  have e2 : (reg W).post c = iprop(held (T c) hostRefs (afterRegion (pdats W 0 c) (W c)) ∗ owing (F := F) c) := rfl
  have h := RegionSeg.wp (pcfgs (F := F)) adm (pdats W) none cellOf_inj EP (defs₀ (F := F)) 𝒱₀ (K (F := F)).L (K (F := F)).lev (reg W) c none (fun _ h => nomatch h)
    (fun x => .ret x) Q
  rw [e1, e2] at h
  have h2 := (K (F := F)).wp_liftProg D 𝒱 (T c) Set.univ none (Prog.lift (.customCall (Pipeline.entry (0 : Fin 1)) ())) Q
  refine BIBase.Entails.trans (BIBase.Entails.trans ?_ h) h2
  iintro ⟨Hk, Hb, Hp, Hl, Hg, Ht⟩
  isplitl [Hk]
  · iintro ⟨Hb, Hp⟩
    rw [wp_ret]
    imodintro
    iapply Hk
    isplitl [Hb]; · iexact Hb
    iexact Hp
  isplitl [Hb]; · iexact Hb
  isplitl [Hp]; · iexact Hp
  isplitl [Hl]; · iexact Hl
  isplitl [Hg]; · iexact Hg
  iexact Ht

end Cert.Flot
-- ==== Proof.Tile.lean ====
/-
  One vector subcore's work in the SparseCore call: the three coordinate tables are copied whole into its own memory;
  then, per chunk of 4096 edges, the neighbour indices are copied in, sixteen edges at a time the coordinates of the
  neighbour and of the origin are gathered and subtracted, and the three differences are copied out. The values are
  carried in the loop invariants.
-/
module

public import proofs.«01_k».proof.Proof.Base
public import Idealize.ShloMosaic.Lib.WordArith.Masks

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "pX" => (Memref.whole Cert.KernelIdeal.main_v7_scv : Memref Cert.KernelIdeal.sig Kind.scVector Space.hbm Cert.KernelIdeal.S8192 EltTy.f32)
local notation "pY" => (Memref.whole Cert.KernelIdeal.main_v9_scv : Memref Cert.KernelIdeal.sig Kind.scVector Space.hbm Cert.KernelIdeal.S8192 EltTy.f32)
local notation "pZ" => (Memref.whole Cert.KernelIdeal.main_v11_scv : Memref Cert.KernelIdeal.sig Kind.scVector Space.hbm Cert.KernelIdeal.S8192 EltTy.f32)
local notation "pI" => (Memref.whole Cert.KernelIdeal.main_v4_scv : Memref Cert.KernelIdeal.sig Kind.scVector Space.hbm Cert.KernelIdeal.S262144 EltTy.i32)
local notation "qX" => (Memref.whole Cert.KernelIdeal.main_v12_0_scv : Memref Cert.KernelIdeal.sig Kind.scVector Space.hbm Cert.KernelIdeal.S262144 EltTy.f32)
local notation "qY" => (Memref.whole Cert.KernelIdeal.main_v12_1_scv : Memref Cert.KernelIdeal.sig Kind.scVector Space.hbm Cert.KernelIdeal.S262144 EltTy.f32)
local notation "qZ" => (Memref.whole Cert.KernelIdeal.main_v12_2_scv : Memref Cert.KernelIdeal.sig Kind.scVector Space.hbm Cert.KernelIdeal.S262144 EltTy.f32)
local notation "sX" => (Memref.whole Cert.KernelIdeal.cc1_scratch0 : Memref Cert.KernelIdeal.sig Kind.scVector Space.vmem Cert.KernelIdeal.S8192 EltTy.f32)
local notation "sY" => (Memref.whole Cert.KernelIdeal.cc1_scratch1 : Memref Cert.KernelIdeal.sig Kind.scVector Space.vmem Cert.KernelIdeal.S8192 EltTy.f32)
local notation "sZ" => (Memref.whole Cert.KernelIdeal.cc1_scratch2 : Memref Cert.KernelIdeal.sig Kind.scVector Space.vmem Cert.KernelIdeal.S8192 EltTy.f32)
local notation "sI" => (Memref.whole Cert.KernelIdeal.cc1_scratch3 : Memref Cert.KernelIdeal.sig Kind.scVector Space.vmem Cert.KernelIdeal.S4096 EltTy.i32)
local notation "tX" => (Memref.whole Cert.KernelIdeal.cc1_scratch4 : Memref Cert.KernelIdeal.sig Kind.scVector Space.vmem Cert.KernelIdeal.S4096 EltTy.f32)
local notation "tY" => (Memref.whole Cert.KernelIdeal.cc1_scratch5 : Memref Cert.KernelIdeal.sig Kind.scVector Space.vmem Cert.KernelIdeal.S4096 EltTy.f32)
local notation "tZ" => (Memref.whole Cert.KernelIdeal.cc1_scratch6 : Memref Cert.KernelIdeal.sig Kind.scVector Space.vmem Cert.KernelIdeal.S4096 EltTy.f32)

/-! ## The value -/

/-- The index `n` of a table of 8192 entries. -/
def at8 (n : ℕ) : S8192.Idx := fun a => ⟨n % 8192, by rw [Subsingleton.elim a 0]; exact Nat.mod_lt _ (by decide)⟩

/-- The index `n` of a chunk's scratch of 4096 entries. -/
def at4 (n : ℕ) : S4096.Idx := fun a => ⟨n % 4096, by rw [Subsingleton.elim a 0]; exact Nat.mod_lt _ (by decide)⟩

/-- What the SparseCore call leaves at edge `e`: the coordinate of the edge's neighbour less that of its origin. -/
def diff (p : S8192.Idx → F .f32) (ix : S262144.Idx → BitVec 32) (e : S262144.Idx) : F .f32 :=
  FloatOps.subf (p (at8 (ix e).toNat)) (p (at8 ((e 0).val / 32)))

/-! ## The subcore -/

variable (d : Dev nD) (L : grid1.Coords)

/-- The SparseCore and the subcore of the task. -/
abbrev cV (L : grid1.Coords) : Fin τ.nSC := (L 0).castLE hcore1
/-- The tile of a task. -/
abbrev jV (L : grid1.Coords) : Fin τ.nSub := (L 1).castLE hsub1
/-- The task's thread. -/
abbrev thr (d : Dev nD) (L : grid1.Coords) : Thread nD τ := V d (cV L) (jV L)

/-- Edge number `n`. -/
def edge (n : ℕ) : S262144.Idx := fun a => ⟨n % 262144, by rw [Subsingleton.elim a 0]; exact Nat.mod_lt _ (by decide)⟩

/-- The first edge of chunk `t` of the task. -/
def base (L : grid1.Coords) (t : ℕ) : ℕ := 16384 * (L 1).val + 8192 * (L 0).val + 4096 * t

/-- The entries of a chunk's scratch before place `16 k` hold the differences. -/
def Filled (p : S8192.Idx → F .f32) (ix : S262144.Idx → BitVec 32) (b k : ℕ) (f : S4096.Idx → F .f32) : Prop :=
  ∀ j : S4096.Idx, (j 0).val < 16 * k → f j = diff p ix (edge (b + (j 0).val))

/-- The resources of the inner loop before trip `k`: the tables, the chunk's indices, and the three difference scratches
    filled up to place `16 k`. -/
def inv2 (px py pz : S8192.Idx → F .f32) (ix : S262144.Idx → BitVec 32) (si : S4096.Idx → BitVec 32) (b k : ℕ) (_ : BitVec 32) : sProp 𝕄 :=
  iprop(((sX).view.loc (thr d L) ↦{fullShare} px) ∗ ((sY).view.loc (thr d L) ↦{fullShare} py) ∗ ((sZ).view.loc (thr d L) ↦{fullShare} pz)
    ∗ ((sI).view.loc (thr d L) ↦{fullShare} si)
    ∗ (∃ f, ⌜Filled px ix b k f⌝ ∗ (tX).view.loc (thr d L) ↦{fullShare} f)
    ∗ (∃ f, ⌜Filled py ix b k f⌝ ∗ (tY).view.loc (thr d L) ↦{fullShare} f)
    ∗ (∃ f, ⌜Filled pz ix b k f⌝ ∗ (tZ).view.loc (thr d L) ↦{fullShare} f))

/-- A trip's number is below two. -/
theorem lt_t1 (t : Fin k1_t1_loop.trips) : t.val < 2 := lt_of_lt_of_le t.isLt k1_t1_abs.2.1
/-- A group's number is below 256. -/
theorem lt_t2 (k : Fin k1_t2_loop.trips) : k.val < 256 := lt_of_lt_of_le k.isLt k1_t2_abs.2.1

/-- The origin's number, as the kernel computes it from the edge's. -/
theorem pay1_toNat (t : Fin k1_t1_loop.trips) (k : Fin k1_t2_loop.trips) (x : S16.Idx) :
    (k1_pay1 L t k x).toNat = (base L t.val + (16 * k.val + (x 0).val)) / 32 := by
  have h0 : (L 0).val < 2 := (L 0).isLt
  have h1 : (L 1).val < 16 := (L 1).isLt
  have ht := lt_t1 t
  have hk := lt_t2 k
  have hx : (x 0).val < 16 := (x 0).isLt
  have hw : IntOp.addi (Scalar.addi (Scalar.addi (Scalar.muli (Scalar.addi (Scalar.muli (BitVec.ofNat 32 (L 1).val) 2#32) (BitVec.ofNat 32 (L 0).val)) 8192#32)
      (Scalar.muli (Scf.iv 0#32 1#32 t) 4096#32)) (Scalar.muli (Scf.iv 0#32 1#32 k) 16#32)) (BitVec.ofNat 32 (0 * 16 + (x 0).val))
      = BitVec.ofNat 32 (base L t.val + (16 * k.val + (x 0).val)) := by
    apply BitVec.eq_of_toNat_eq
    have e1 := WordArith.toNat_iv_zero_one t.val (show t.val < 2 ^ 32 by omega)
    have e2 := WordArith.toNat_iv_zero_one k.val (show k.val < 2 ^ 32 by omega)
    simp only [Scalar.addi, Scalar.muli, IntOp.addi, IntOp.muli, BitVec.toNat_add, BitVec.toNat_mul, BitVec.toNat_ofNat, base]
    rw [e1, e2]
    omega
  have hp : k1_pay1 L t k x = IntOp.shrui .vector (BitVec.ofNat 32 (base L t.val + (16 * k.val + (x 0).val))) 5#32 :=
    congrArg (fun w => IntOp.shrui .vector w 5#32) hw
  rw [hp]
  unfold IntOp.shrui
  rw [if_pos (by decide)]
  simp only [BitVec.toNat_ushiftRight, BitVec.ushiftRight_eq', BitVec.toNat_ofNat, Nat.shiftRight_eq_div_pow]
  rw [Nat.mod_eq_of_lt (by unfold base; omega)]

/-- The words the kernel gathers the origins by are inside the tables. -/
theorem chk2 (t : Fin k1_t1_loop.trips) (k : Fin k1_t2_loop.trips) : k1_chk2 (k1_pay1 L t k) := by
  have h : ∀ a x, ((![k1_pay1 L t k] : Fin 1 → IVec S16 32) a x).toNat < S8192.size a := by
    intro a x
    obtain rfl : a = 0 := Subsingleton.elim _ _
    show (k1_pay1 L t k x).toNat < 8192
    rw [pay1_toNat]
    have h0 : (L 0).val < 2 := (L 0).isLt
    have h1 : (L 1).val < 16 := (L 1).isLt
    have ht := lt_t1 t
    have hk := lt_t2 k
    have hx : (x 0).val < 16 := (x 0).isLt
    unfold base; omega
  exact ⟨h, h, h⟩

/-- The indices loaded at trip `k` from the chunk's scratch. -/
theorem load_si (si : S4096.Idx → BitVec 32) (k : Fin k1_t2_loop.trips) (x : S16.Idx) :
    View.readAt (Elt F) (sI).view (Rect.unit (s := S4096) (k1_off2 k) S16.size (k1_off2_inb k)).toLoadRect si x
      = si (at4 (16 * k.val + (x 0).val)) := by
  have hk := lt_t2 k
  have hx : (x 0).val < 16 := (x 0).isLt
  have h : ∀ a : Fin 1, (k1_off2 k) a + 1 * (x 0).val = (16 * k.val + (x 0).val) % 4096 := by
    intro a; obtain rfl : a = 0 := Subsingleton.elim _ _
    rw [k1_off2_eq]; show 16 * k.val + 1 * (x 0).val = _; omega
  refine congrArg si (funext fun (a : Fin 1) => Fin.ext ?_)
  obtain rfl : a = 0 := Subsingleton.elim _ _
  exact h 0

/-- The neighbour indices loaded are inside the tables. -/
theorem chk1 (si : S4096.Idx → BitVec 32) (h : ∀ j, (si j).toNat < 8192) (k : Fin k1_t2_loop.trips) :
    k1_chk1 (View.readAt (Elt F) (sI).view (Rect.unit (s := S4096) (k1_off2 k) S16.size (k1_off2_inb k)).toLoadRect si) := by
  have h' : ∀ a x, ((![View.readAt (Elt F) (sI).view (Rect.unit (s := S4096) (k1_off2 k) S16.size (k1_off2_inb k)).toLoadRect si] : Fin 1 → IVec S16 32) a x).toNat < S8192.size a := by
    intro a x
    obtain rfl : a = 0 := Subsingleton.elim _ _
    show (View.readAt (Elt F) (sI).view (Rect.unit (s := S4096) (k1_off2 k) S16.size (k1_off2_inb k)).toLoadRect si x).toNat < 8192
    rw [load_si]; exact h _
  exact ⟨h', h', h'⟩

/-- A store at trip `k` of the sixteen differences fills sixteen more entries. -/
theorem filled_step (p : S8192.Idx → F .f32) (ix : S262144.Idx → BitVec 32) (b : ℕ) (k : Fin k1_t2_loop.trips)
    (v : View sig .scVector .vmem S4096 .f32) (f : v.ty.Contents (Elt F)) (w : S16.Idx → F .f32)
    (hf : Filled p ix b k.val (v.read (Elt F) f)) (hw : ∀ x, w x = diff p ix (edge (b + (16 * k.val + (x 0).val)))) :
    Filled p ix b (k.val + 1) (v.read (Elt F) (v.writes (Elt F) f [⟨Rect.unit (s := S4096) (k1_off3 k) S16.size (k1_off3_inb k), w⟩])) := by
  intro j hj
  have ho : (k1_off3 k) 0 = 16 * k.val := by rw [k1_off3_eq]; rfl
  by_cases h : (j 0).val < 16 * k.val
  · refine (View.read_writes_cons_miss_of_axis v f _ [] j 0 (16 * k.val) 16 ho rfl rfl (.inl h)).trans ?_
    exact hf j h
  · have hx : (j 0).val - 16 * k.val < 16 := by omega
    have hs : ∀ a : Fin 1, (j 0).val - 16 * k.val < S16.size a := by
      intro a; obtain rfl : a = 0 := Subsingleton.elim _ _; exact hx
    let x : S16.Idx := fun a => ⟨(j 0).val - 16 * k.val, hs a⟩
    refine (View.read_writes_cons_hit_of_coords v f (Rect.unit (s := S4096) (k1_off3 k) S16.size (k1_off3_inb k)) w [] x j ?_).trans ?_
    · intro (a : Fin 1)
      obtain rfl : a = 0 := Subsingleton.elim _ _
      show (j 0).val = (k1_off3 k) 0 + 1 * ((j 0).val - 16 * k.val)
      rw [ho]; omega
    · rw [hw]
      show diff p ix (edge (b + (16 * k.val + ((j 0).val - 16 * k.val)))) = _
      rw [show 16 * k.val + ((j 0).val - 16 * k.val) = (j 0).val by omega]

/-- What trip `k` stores at lane `x`: the difference at the lane's edge. -/
theorem stored (p : S8192.Idx → F .f32) (ix : S262144.Idx → BitVec 32) (si : S4096.Idx → BitVec 32)
    (hix : ∀ e, (ix e).toNat < 8192) (t1 : Fin k1_t1_loop.trips) (hsi : ∀ j, si j = ix (edge (base L t1.val + (j 0).val)))
    (k : Fin k1_t2_loop.trips) (p' : S8192.Idx → F .f32) (hp : p' = p) (h1 h2) (x : S16.Idx) :
    (subf (loadIdx (F := F) (e := .f32) (t := S16) (s := S8192) p' ![View.readAt (Elt F) (sI).view (Rect.unit (s := S4096) (k1_off2 k) S16.size (k1_off2_inb k)).toLoadRect si] h1)
      (loadIdx (F := F) (e := .f32) (t := S16) (s := S8192) p' ![k1_pay1 L t1 k] h2) : FVec F S16 .f32) x = diff p ix (edge (base L t1.val + (16 * k.val + (x 0).val))) := by
  subst hp
  have hk := lt_t2 k
  have hx : (x 0).val < 16 := (x 0).isLt
  have h0 : (L 0).val < 2 := (L 0).isLt
  have h1' : (L 1).val < 16 := (L 1).isLt
  have ht := lt_t1 t1
  unfold diff
  show FloatOps.subf (p' _) (p' _) = _
  have e1 : (View.readAt (Elt F) (sI).view (Rect.unit (s := S4096) (k1_off2 k) S16.size (k1_off2_inb k)).toLoadRect si x : BitVec 32)
      = ix (edge (base L t1.val + (16 * k.val + (x 0).val))) := by
    rw [load_si, hsi]
    show ix (edge (base L t1.val + (16 * k.val + (x 0).val) % 4096)) = _
    rw [Nat.mod_eq_of_lt (by omega)]
  congr 1
  · congr 1
    funext (a : Fin 1); apply Fin.ext
    obtain rfl : a = 0 := Subsingleton.elim _ _
    show (View.readAt (Elt F) (sI).view (Rect.unit (s := S4096) (k1_off2 k) S16.size (k1_off2_inb k)).toLoadRect si x : BitVec 32).toNat = (ix _).toNat % 8192
    rw [e1, Nat.mod_eq_of_lt (hix _)]
  · congr 1
    funext (a : Fin 1); apply Fin.ext
    obtain rfl : a = 0 := Subsingleton.elim _ _
    show (k1_pay1 L t1 k x).toNat = (base L t1.val + (16 * k.val + (x 0).val)) % 262144 / 32 % 8192
    rw [pay1_toNat]
    unfold base
    omega

/-- One group: sixteen edges' differences are stored after those of the earlier groups. -/
theorem trip2 (px py pz : S8192.Idx → F .f32) (ix : S262144.Idx → BitVec 32) (si : S4096.Idx → BitVec 32)
    (hix : ∀ e, (ix e).toNat < 8192) (t1 : Fin k1_t1_loop.trips) (hsi : ∀ j, si j = ix (edge (base L t1.val + (j 0).val)))
    (k : Fin k1_t2_loop.trips) (acc : BitVec 32) :
    inv2 d L px py pz ix si (base L t1.val) k.val acc
      ⊢ wp frame (wpE (defs₀ (F := F)) 𝒱₀ (thr d L) none) Set.univ
          (k1_t2_body L pX (Memref.isWhole_whole _) pY (Memref.isWhole_whole _) pZ (Memref.isWhole_whole _) pI (Memref.isWhole_whole _)
            qX (Memref.isWhole_whole _) qY (Memref.isWhole_whole _) qZ (Memref.isWhole_whole _)
            sX (Memref.isWhole_whole _) sY (Memref.isWhole_whole _) sZ (Memref.isWhole_whole _) sI (Memref.isWhole_whole _)
            tX (Memref.isWhole_whole _) tY (Memref.isWhole_whole _) tZ (Memref.isWhole_whole _)
            cc1_scoped0 cc1_scoped1 cc1_scoped2 cc1_scoped3 cc1_scoped4 cc1_scoped5 cc1_scoped6 t1 k acc)
          fun a => inv2 d L px py pz ix si (base L t1.val) (k.val + 1) a := by
  have hc1 := chk1 (F := F) si (fun j => by rw [hsi]; exact hix _) k
  have hc2 := chk2 L t1 k
  unfold k1_t2_body SparseCore.vectorLoadIdx
  unfold inv2
  iintro ⟨Hx, Hy, Hz, Hi, ⟨%fx, %hfx, Htx⟩, ⟨%fy, %hfy, Hty⟩, ⟨%fz, %hfz, Htz⟩⟩
  sl_exec
  sl_step
  isplitl [Hx]; · iexact Hx
  isplitl [Hy]; · iexact Hy
  isplitl [Hz]; · iexact Hz
  isplitl [Hi]; · iexact Hi
  isplitl [Htx]
  · iexists _; isplitr; rotate_left
    · iexact Htx
    · ipureintro
      exact filled_step px ix _ k (tX).view fx _ hfx (stored L px ix si hix t1 hsi k _ (Memref.readAt_whole _ _ _) _ _)
  isplitl [Hty]
  · iexists _; isplitr; rotate_left
    · iexact Hty
    · ipureintro
      exact filled_step py ix _ k (tY).view fy _ hfy (stored L py ix si hix t1 hsi k _ (Memref.readAt_whole _ _ _) _ _)
  · iexists _; isplitr; rotate_left
    · iexact Htz
    · ipureintro
      exact filled_step pz ix _ k (tZ).view fz _ hfz (stored L pz ix si hix t1 hsi k _ (Memref.readAt_whole _ _ _) _ _)

/-! ## A chunk -/

/-- The edges of the chunk whose first edge is `b`. -/
def ch (b : ℕ) : Finset S262144.Idx := Finset.univ.filter fun e => b ≤ (e 0).val ∧ (e 0).val < b + 4096

/-- An edge is in a chunk if it is among its 4096. -/
theorem mem_ch (b : ℕ) (e : S262144.Idx) : e ∈ ch b ↔ b ≤ (e 0).val ∧ (e 0).val < b + 4096 := by simp [ch]

/-- The rectangle a chunk's copies go through. -/
abbrev rCh (L : grid1.Coords) (t : Fin k1_t1_loop.trips) : Rect S262144 := Rect.unit (s := S262144) (k1_off1 L t) S4096.size (k1_off1_inb L t)

/-- A trip's slice is its chunk. -/
theorem rCh_set (t : Fin k1_t1_loop.trips) : (rCh L t).set = ch (base L t.val) := by
  ext e
  rw [Rect.mem_set_unit, mem_ch]
  have ho : (k1_off1 L t) 0 = base L t.val := by rw [k1_off1_eq]; rfl
  constructor
  · intro h; have := h 0; rw [ho] at this; exact this
  · intro h (a : Fin 1); obtain rfl : a = 0 := Subsingleton.elim _ _; rw [ho]; exact h

/-- So is the slice of the neighbours, -/
theorem set_I (t : Fin k1_t1_loop.trips) : ((pI).slice (rCh L t) (fun _ => rfl)).view.set = ch (base L t.val) := by
  show ((View.whole main_v4_scv).slice (rCh L t)).set = _
  rw [View.set_slice_whole]; exact rCh_set L t
/-- of the first result, -/
theorem set_X (t : Fin k1_t1_loop.trips) : ((qX).slice (rCh L t) (fun _ => rfl)).view.set = ch (base L t.val) := by
  show ((View.whole main_v12_0_scv).slice (rCh L t)).set = _
  rw [View.set_slice_whole]; exact rCh_set L t
/-- of the second result, -/
theorem set_Y (t : Fin k1_t1_loop.trips) : ((qY).slice (rCh L t) (fun _ => rfl)).view.set = ch (base L t.val) := by
  show ((View.whole main_v12_1_scv).slice (rCh L t)).set = _
  rw [View.set_slice_whole]; exact rCh_set L t
/-- and of the third. -/
theorem set_Z (t : Fin k1_t1_loop.trips) : ((qZ).slice (rCh L t) (fun _ => rfl)).view.set = ch (base L t.val) := by
  show ((View.whole main_v12_2_scv).slice (rCh L t)).set = _
  rw [View.set_slice_whole]; exact rCh_set L t

/-- Holding the neighbours' slice is holding the chunk; -/
theorem pts_I (t : Fin k1_t1_loop.trips) (f : Buf (Elt F) (iLoc d)) :
    (((pI).slice (rCh L t) (fun _ => rfl)).view.loc (thr d L) ↦[((pI).slice (rCh L t) (fun _ => rfl)).view.set]{fullShare} f : sProp 𝕄)
      = iLoc d ↦[ch (base L t.val)]{fullShare} f := by rw [set_I]
/-- so for the first result, -/
theorem pts_X (t : Fin k1_t1_loop.trips) (f : Buf (Elt F) (oxLoc d)) :
    (((qX).slice (rCh L t) (fun _ => rfl)).view.loc (thr d L) ↦[((qX).slice (rCh L t) (fun _ => rfl)).view.set]{fullShare} f : sProp 𝕄)
      = oxLoc d ↦[ch (base L t.val)]{fullShare} f := by rw [set_X]
/-- for the second, -/
theorem pts_Y (t : Fin k1_t1_loop.trips) (f : Buf (Elt F) (oyLoc d)) :
    (((qY).slice (rCh L t) (fun _ => rfl)).view.loc (thr d L) ↦[((qY).slice (rCh L t) (fun _ => rfl)).view.set]{fullShare} f : sProp 𝕄)
      = oyLoc d ↦[ch (base L t.val)]{fullShare} f := by rw [set_Y]
/-- and for the third. -/
theorem pts_Z (t : Fin k1_t1_loop.trips) (f : Buf (Elt F) (ozLoc d)) :
    (((qZ).slice (rCh L t) (fun _ => rfl)).view.loc (thr d L) ↦[((qZ).slice (rCh L t) (fun _ => rfl)).view.set]{fullShare} f : sProp 𝕄)
      = ozLoc d ↦[ch (base L t.val)]{fullShare} f := by rw [set_Z]

/-- What the task holds of the edge arrays: chunk `t` of the indices and of the three results, these at `fx`, `fy`, `fz`. -/
def chunk (ix : S262144.Idx → BitVec 32) (fx fy fz : S262144.Idx → F .f32) (t : Fin k1_t1_loop.trips) : sProp 𝕄 :=
  iprop((iLoc d ↦[ch (base L t.val)]{fullShare} (ix : Buf (Elt F) (iLoc d))) ∗ (oxLoc d ↦[ch (base L t.val)]{fullShare} (fx : Buf (Elt F) (oxLoc d)))
    ∗ (oyLoc d ↦[ch (base L t.val)]{fullShare} (fy : Buf (Elt F) (oyLoc d))) ∗ (ozLoc d ↦[ch (base L t.val)]{fullShare} (fz : Buf (Elt F) (ozLoc d))))

/-- A chunk before (`n ≤ t`) and after its trip. -/
def chunkAt (px py pz : S8192.Idx → F .f32) (ix : S262144.Idx → BitVec 32) (gx gy gz : S262144.Idx → F .f32) (n : ℕ) (t : Fin k1_t1_loop.trips) : sProp 𝕄 :=
  if t.val < n then chunk d L ix (diff px ix) (diff py ix) (diff pz ix) t else chunk d L ix gx gy gz t

/-- The resources of the outer loop before trip `n`. -/
def inv1 (px py pz : S8192.Idx → F .f32) (ix : S262144.Idx → BitVec 32) (gx gy gz : S262144.Idx → F .f32)
    (O : CellTallies nD τ sig (HIx 1)) (W : Waits sig (HIx 1)) (n : ℕ) (_ : BitVec 32) : sProp 𝕄 :=
  iprop(Transfers.MayWaits (thr d L) (none : HIx 1) O
    ∗ ((sX).view.loc (thr d L) ↦{fullShare} px) ∗ ((sY).view.loc (thr d L) ↦{fullShare} py) ∗ ((sZ).view.loc (thr d L) ↦{fullShare} pz)
    ∗ (∃ f, (sI).view.loc (thr d L) ↦{fullShare} f)
    ∗ (∃ f, (tX).view.loc (thr d L) ↦{fullShare} f)
    ∗ (∃ f, (tY).view.loc (thr d L) ↦{fullShare} f)
    ∗ (∃ f, (tZ).view.loc (thr d L) ↦{fullShare} f)
    ∗ bigSep Finset.univ (chunkAt d L px py pz ix gx gy gz n)
    ∗ semVal (thr d L, SemLoc.dma cc1_scoped3.sem) 0 ∗ semVal (thr d L, SemLoc.dma cc1_scoped4.sem) 0
    ∗ semVal (thr d L, SemLoc.dma cc1_scoped5.sem) 0 ∗ semVal (thr d L, SemLoc.dma cc1_scoped6.sem) 0
    ∗ ∃ W', ⌜∀ p ∈ W', p ∈ W ∨ p.2 = none⌝ ∗ owes (thr d L) O W')

end Cert.Flot
-- ==== Proof.TileChunk.lean ====
/-
  One chunk's trip of a vector subcore: the neighbour indices in, the sixteen-lane loop, the three differences out.
-/
module

public import proofs.«01_k».proof.Proof.Tile

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "pX" => (Memref.whole Cert.KernelIdeal.main_v7_scv : Memref Cert.KernelIdeal.sig Kind.scVector Space.hbm Cert.KernelIdeal.S8192 EltTy.f32)
local notation "pY" => (Memref.whole Cert.KernelIdeal.main_v9_scv : Memref Cert.KernelIdeal.sig Kind.scVector Space.hbm Cert.KernelIdeal.S8192 EltTy.f32)
local notation "pZ" => (Memref.whole Cert.KernelIdeal.main_v11_scv : Memref Cert.KernelIdeal.sig Kind.scVector Space.hbm Cert.KernelIdeal.S8192 EltTy.f32)
local notation "pI" => (Memref.whole Cert.KernelIdeal.main_v4_scv : Memref Cert.KernelIdeal.sig Kind.scVector Space.hbm Cert.KernelIdeal.S262144 EltTy.i32)
local notation "qX" => (Memref.whole Cert.KernelIdeal.main_v12_0_scv : Memref Cert.KernelIdeal.sig Kind.scVector Space.hbm Cert.KernelIdeal.S262144 EltTy.f32)
local notation "qY" => (Memref.whole Cert.KernelIdeal.main_v12_1_scv : Memref Cert.KernelIdeal.sig Kind.scVector Space.hbm Cert.KernelIdeal.S262144 EltTy.f32)
local notation "qZ" => (Memref.whole Cert.KernelIdeal.main_v12_2_scv : Memref Cert.KernelIdeal.sig Kind.scVector Space.hbm Cert.KernelIdeal.S262144 EltTy.f32)
local notation "sX" => (Memref.whole Cert.KernelIdeal.cc1_scratch0 : Memref Cert.KernelIdeal.sig Kind.scVector Space.vmem Cert.KernelIdeal.S8192 EltTy.f32)
local notation "sY" => (Memref.whole Cert.KernelIdeal.cc1_scratch1 : Memref Cert.KernelIdeal.sig Kind.scVector Space.vmem Cert.KernelIdeal.S8192 EltTy.f32)
local notation "sZ" => (Memref.whole Cert.KernelIdeal.cc1_scratch2 : Memref Cert.KernelIdeal.sig Kind.scVector Space.vmem Cert.KernelIdeal.S8192 EltTy.f32)
local notation "sI" => (Memref.whole Cert.KernelIdeal.cc1_scratch3 : Memref Cert.KernelIdeal.sig Kind.scVector Space.vmem Cert.KernelIdeal.S4096 EltTy.i32)
local notation "tX" => (Memref.whole Cert.KernelIdeal.cc1_scratch4 : Memref Cert.KernelIdeal.sig Kind.scVector Space.vmem Cert.KernelIdeal.S4096 EltTy.f32)
local notation "tY" => (Memref.whole Cert.KernelIdeal.cc1_scratch5 : Memref Cert.KernelIdeal.sig Kind.scVector Space.vmem Cert.KernelIdeal.S4096 EltTy.f32)
local notation "tZ" => (Memref.whole Cert.KernelIdeal.cc1_scratch6 : Memref Cert.KernelIdeal.sig Kind.scVector Space.vmem Cert.KernelIdeal.S4096 EltTy.f32)

variable (d : Dev nD) (L : grid1.Coords)

/-- A chunk's indices as the copy brings them in. -/
theorem write_in (t : Fin k1_t1_loop.trips) (f : Buf (Elt F) ((sI).view.loc (thr d L))) (ix : S262144.Idx → BitVec 32) (j : S4096.Idx) :
    View.write (Elt F) (sI).view f (View.read (Elt F) ((pI).slice (rCh L t) (fun _ => rfl)).view ix) Finset.univ j
      = ix (edge (base L t.val + (j 0).val)) := by
  have ht := lt_t1 t
  have h0 : (L 0).val < 2 := (L 0).isLt
  have h1 : (L 1).val < 16 := (L 1).isLt
  have hj : (j 0).val < 4096 := (j 0).isLt
  have ho : (k1_off1 L t) 0 = base L t.val := by rw [k1_off1_eq]; rfl
  have hw : View.write (Elt F) (sI).view f (View.read (Elt F) ((pI).slice (rCh L t) (fun _ => rfl)).view ix) Finset.univ
      = View.read (Elt F) ((pI).slice (rCh L t) (fun _ => rfl)).view ix := View.write_whole_univ cc1_scratch3 f _
  refine (congrFun hw j).trans ?_
  refine congrArg ix (funext fun (a : Fin 1) => Fin.ext ?_)
  obtain rfl : a = 0 := Subsingleton.elim _ _
  show (k1_off1 L t) 0 + 1 * (j 0).val = (base L t.val + (j 0).val) % 262144
  rw [ho]
  unfold base; omega

/-- A chunk copied out holds the differences at its edges. -/
theorem write_out (t : Fin k1_t1_loop.trips) (p : S8192.Idx → F .f32) (ix : S262144.Idx → BitVec 32) (v : View sig .scVector .hbm S262144 .f32)
    (g : v.ty.Contents (Elt F)) (f : S4096.Idx → F .f32) (hf : ∀ j, f j = diff p ix (edge (base L t.val + (j 0).val)))
    (e : S262144.Idx) (he : e ∈ ch (base L t.val)) :
    v.read (Elt F) ((v.slice (rCh L t)).writes (Elt F) g [⟨Rect.whole (rCh L t).shape, f⟩]) e = diff p ix e := by
  rw [mem_ch] at he
  have ht := lt_t1 t
  have h0 : (L 0).val < 2 := (L 0).isLt
  have h1 : (L 1).val < 16 := (L 1).isLt
  have hx : (e 0).val - base L t.val < 4096 := by omega
  have ho : (k1_off1 L t) 0 = base L t.val := by rw [k1_off1_eq]; rfl
  have hs : ∀ a : Fin 1, (e 0).val - base L t.val < S4096.size a := by
    intro a; obtain rfl : a = 0 := Subsingleton.elim _ _; exact hx
  let x : S4096.Idx := fun a => ⟨(e 0).val - base L t.val, hs a⟩
  have hx : (rCh L t).emb x = e := by
    refine funext fun (a : Fin 1) => Fin.ext ?_
    obtain rfl : a = 0 := Subsingleton.elim _ _
    show (k1_off1 L t) 0 + 1 * ((e 0).val - base L t.val) = (e 0).val
    rw [ho]; omega
  have hr : v.read (Elt F) ((v.slice (rCh L t)).writes (Elt F) g [⟨Rect.whole (rCh L t).shape, f⟩]) ((rCh L t).emb x)
      = (v.slice (rCh L t)).read (Elt F) ((v.slice (rCh L t)).writes (Elt F) g [⟨Rect.whole (rCh L t).shape, f⟩]) x := rfl
  rw [← hx, hr]
  refine (View.read_writes_cons_hit_of_coords (v.slice (rCh L t)) g (Rect.whole (rCh L t).shape) f [] x x ?_).trans ?_
  · intro (a : Fin 1)
    show (x a).val = 0 + 1 * (x a).val
    omega
  · rw [hf, hx]
    congr 1
    refine (funext fun (a : Fin 1) => Fin.ext ?_)
    obtain rfl : a = 0 := Subsingleton.elim _ _
    have he' : (e 0).val < 262144 := (e 0).isLt
    show (base L t.val + ((e 0).val - base L t.val)) % 262144 = (e 0).val
    omega

/-- Writing a chunk's differences back to the first result: what it holds then on the chunk. -/
theorem wr_X (t : Fin k1_t1_loop.trips) (p : S8192.Idx → F .f32) (ix : S262144.Idx → BitVec 32) (g : Buf (Elt F) (oxLoc d))
    (f : S4096.Idx → F .f32) (hf : ∀ j, f j = diff p ix (edge (base L t.val + (j 0).val))) (e : S262144.Idx) (he : e ∈ ch (base L t.val)) :
    (((qX).slice (rCh L t) (fun _ => rfl)).view.writes (Elt F) g [⟨Rect.whole (rCh L t).shape, f⟩] : Buf (Elt F) (oxLoc d)) e = diff p ix e := by
  have h := write_out L t p ix (qX).view g f hf e he
  change View.read (Elt F) (qX).view (((qX).slice (rCh L t) (fun _ => rfl)).view.writes (Elt F) g [⟨Rect.whole (rCh L t).shape, f⟩]) e = _ at h
  generalize ((qX).slice (rCh L t) (fun _ => rfl)).view.writes (Elt F) g [⟨Rect.whole (rCh L t).shape, f⟩] = G at h ⊢
  rw [show View.read (Elt F) (qX).view G = G from View.read_whole _ _] at h
  exact h

/-- The first result's chunk, held with its differences. -/
theorem out_X (t : Fin k1_t1_loop.trips) (p : S8192.Idx → F .f32) (ix : S262144.Idx → BitVec 32) (g : Buf (Elt F) (oxLoc d))
    (f : S4096.Idx → F .f32) (hf : ∀ j, f j = diff p ix (edge (base L t.val + (j 0).val))) :
    (((qX).slice (rCh L t) (fun _ => rfl)).view.loc (thr d L) ↦[((qX).slice (rCh L t) (fun _ => rfl)).view.set]{fullShare}
        (((qX).slice (rCh L t) (fun _ => rfl)).view.writes (Elt F) g [⟨Rect.whole (rCh L t).shape, f⟩]) : sProp 𝕄)
      = oxLoc d ↦[ch (base L t.val)]{fullShare} (diff p ix : Buf (Elt F) (oxLoc d)) := by
  rw [pts_X]
  refine pointsTo_congr ?_
  intro e he
  exact wr_X d L t p ix g f hf e he

/-- Writing a chunk's differences back to the second result. -/
theorem wr_Y (t : Fin k1_t1_loop.trips) (p : S8192.Idx → F .f32) (ix : S262144.Idx → BitVec 32) (g : Buf (Elt F) (oyLoc d))
    (f : S4096.Idx → F .f32) (hf : ∀ j, f j = diff p ix (edge (base L t.val + (j 0).val))) (e : S262144.Idx) (he : e ∈ ch (base L t.val)) :
    (((qY).slice (rCh L t) (fun _ => rfl)).view.writes (Elt F) g [⟨Rect.whole (rCh L t).shape, f⟩] : Buf (Elt F) (oyLoc d)) e = diff p ix e := by
  have h := write_out L t p ix (qY).view g f hf e he
  change View.read (Elt F) (qY).view (((qY).slice (rCh L t) (fun _ => rfl)).view.writes (Elt F) g [⟨Rect.whole (rCh L t).shape, f⟩]) e = _ at h
  generalize ((qY).slice (rCh L t) (fun _ => rfl)).view.writes (Elt F) g [⟨Rect.whole (rCh L t).shape, f⟩] = G at h ⊢
  rw [show View.read (Elt F) (qY).view G = G from View.read_whole _ _] at h
  exact h

/-- The second result's chunk, held with its differences. -/
theorem out_Y (t : Fin k1_t1_loop.trips) (p : S8192.Idx → F .f32) (ix : S262144.Idx → BitVec 32) (g : Buf (Elt F) (oyLoc d))
    (f : S4096.Idx → F .f32) (hf : ∀ j, f j = diff p ix (edge (base L t.val + (j 0).val))) :
    (((qY).slice (rCh L t) (fun _ => rfl)).view.loc (thr d L) ↦[((qY).slice (rCh L t) (fun _ => rfl)).view.set]{fullShare}
        (((qY).slice (rCh L t) (fun _ => rfl)).view.writes (Elt F) g [⟨Rect.whole (rCh L t).shape, f⟩]) : sProp 𝕄)
      = oyLoc d ↦[ch (base L t.val)]{fullShare} (diff p ix : Buf (Elt F) (oyLoc d)) := by
  rw [pts_Y]
  refine pointsTo_congr ?_
  intro e he
  exact wr_Y d L t p ix g f hf e he

/-- Writing a chunk's differences back to the third result. -/
theorem wr_Z (t : Fin k1_t1_loop.trips) (p : S8192.Idx → F .f32) (ix : S262144.Idx → BitVec 32) (g : Buf (Elt F) (ozLoc d))
    (f : S4096.Idx → F .f32) (hf : ∀ j, f j = diff p ix (edge (base L t.val + (j 0).val))) (e : S262144.Idx) (he : e ∈ ch (base L t.val)) :
    (((qZ).slice (rCh L t) (fun _ => rfl)).view.writes (Elt F) g [⟨Rect.whole (rCh L t).shape, f⟩] : Buf (Elt F) (ozLoc d)) e = diff p ix e := by
  have h := write_out L t p ix (qZ).view g f hf e he
  change View.read (Elt F) (qZ).view (((qZ).slice (rCh L t) (fun _ => rfl)).view.writes (Elt F) g [⟨Rect.whole (rCh L t).shape, f⟩]) e = _ at h
  generalize ((qZ).slice (rCh L t) (fun _ => rfl)).view.writes (Elt F) g [⟨Rect.whole (rCh L t).shape, f⟩] = G at h ⊢
  rw [show View.read (Elt F) (qZ).view G = G from View.read_whole _ _] at h
  exact h

/-- The third result's chunk, held with its differences. -/
theorem out_Z (t : Fin k1_t1_loop.trips) (p : S8192.Idx → F .f32) (ix : S262144.Idx → BitVec 32) (g : Buf (Elt F) (ozLoc d))
    (f : S4096.Idx → F .f32) (hf : ∀ j, f j = diff p ix (edge (base L t.val + (j 0).val))) :
    (((qZ).slice (rCh L t) (fun _ => rfl)).view.loc (thr d L) ↦[((qZ).slice (rCh L t) (fun _ => rfl)).view.set]{fullShare}
        (((qZ).slice (rCh L t) (fun _ => rfl)).view.writes (Elt F) g [⟨Rect.whole (rCh L t).shape, f⟩]) : sProp 𝕄)
      = ozLoc d ↦[ch (base L t.val)]{fullShare} (diff p ix : Buf (Elt F) (ozLoc d)) := by
  rw [pts_Z]
  refine pointsTo_congr ?_
  intro e he
  exact wr_Z d L t p ix g f hf e he

/-- A chunk has 256 groups. -/
theorem trips2 : k1_t2_loop.trips = 256 := by decide

/-- One trip: its chunk's differences are in the three results, and everything else is as before. -/
theorem trip1 (px py pz : S8192.Idx → F .f32) (ix : S262144.Idx → BitVec 32) (gx gy gz : S262144.Idx → F .f32)
    (hix : ∀ e, (ix e).toNat < 8192) (O : CellTallies nD τ sig (HIx 1)) (W : Waits sig (HIx 1))
    (t : Fin k1_t1_loop.trips) (acc : BitVec 32) :
    inv1 d L px py pz ix gx gy gz O W t.val acc
      ⊢ wp frame (wpE (defs₀ (F := F)) 𝒱₀ (thr d L) none) Set.univ
          (k1_t1_body L pX (Memref.isWhole_whole _) pY (Memref.isWhole_whole _) pZ (Memref.isWhole_whole _) pI (Memref.isWhole_whole _)
            qX (Memref.isWhole_whole _) qY (Memref.isWhole_whole _) qZ (Memref.isWhole_whole _)
            sX (Memref.isWhole_whole _) sY (Memref.isWhole_whole _) sZ (Memref.isWhole_whole _) sI (Memref.isWhole_whole _)
            tX (Memref.isWhole_whole _) tY (Memref.isWhole_whole _) tZ (Memref.isWhole_whole _)
            cc1_scoped0 cc1_scoped1 cc1_scoped2 cc1_scoped3 cc1_scoped4 cc1_scoped5 cc1_scoped6 t acc)
          fun a => inv1 d L px py pz ix gx gy gz O W (t.val + 1) a := by
  unfold k1_t1_body
  unfold inv1
  rw [SparseCore.bigSep_erase' (Finset.mem_univ t)]
  rw [show chunkAt d L px py pz ix gx gy gz t.val t = chunk d L ix gx gy gz t from if_neg (lt_irrefl _)]
  unfold chunk
  iintro ⟨Hmw, Hx, Hy, Hz, ⟨%fi, Hi⟩, ⟨%fx, Htx⟩, ⟨%fy, Hty⟩, ⟨%fz, Htz⟩, ⟨⟨HI, HX, HY, HZ⟩, Hrest⟩, Hs3, Hs4, Hs5, Hs6, %W', %hW', HO⟩
  ihave HI' := (Entails.of_eq (pts_I (F := F) d L t _).symm) $$ HI
  ihave HX' := (Entails.of_eq (pts_X (F := F) d L t _).symm) $$ HX
  ihave HY' := (Entails.of_eq (pts_Y (F := F) d L t _).symm) $$ HY
  ihave HZ' := (Entails.of_eq (pts_Z (F := F) d L t _).symm) $$ HZ
  sl_exec
  have hsi : ∀ j : S4096.Idx, View.write (Elt F) (sI).view fi (trip1.sl.dma0 L ix t) Finset.univ j = ix (edge (base L t.val + (j 0).val)) :=
    fun j => write_in d L t fi ix j
  sl_for (inv2 d L px py pz ix (View.write (Elt F) (sI).view fi (trip1.sl.dma0 L ix t) Finset.univ) (base L t.val)) $$ [Hx Hy Hz Hi Htx Hty Htz]
  case region =>
    intro k a
    exact trip2 d L px py pz ix _ hix t hsi k a
  · unfold inv2
    isplitl [Hx]; · iexact Hx
    isplitl [Hy]; · iexact Hy
    isplitl [Hz]; · iexact Hz
    isplitl [Hi]; · iexact Hi
    isplitl [Htx]
    · iexists fx; isplitr; rotate_left
      · iexact Htx
      · ipureintro; intro j hj; omega
    isplitl [Hty]
    · iexists fy; isplitr; rotate_left
      · iexact Hty
      · ipureintro; intro j hj; omega
    · iexists fz; isplitr; rotate_left
      · iexact Htz
      · ipureintro; intro j hj; omega
  iintro %_ HI
  unfold inv2
  icases HI with ⟨Hx, Hy, Hz, Hi, ⟨%fx', %hfx, Htx⟩, ⟨%fy', %hfy, Hty⟩, ⟨%fz', %hfz, Htz⟩⟩
  sl_exec
  sl_step
  have hout : ∀ (p : S8192.Idx → F .f32) (f : S4096.Idx → F .f32), Filled p ix (base L t.val) (Scf.trips k1_t2_loop.lb k1_t2_loop.ub k1_t2_loop.st) f →
      ∀ j, f j = diff p ix (edge (base L t.val + (j 0).val)) :=
    fun p f h j => h j (by rw [show Scf.trips k1_t2_loop.lb k1_t2_loop.ub k1_t2_loop.st = 256 from trips2]; exact (j 0).isLt)
  ihave HIa := (Entails.of_eq (pts_I (F := F) d L t _)) $$ HI'
  ihave HXa := (Entails.of_eq (out_X (F := F) d L t px ix gx (trip1.sl.dma0_1 fx') (hout px fx' hfx))) $$ HX'
  ihave HYa := (Entails.of_eq (out_Y (F := F) d L t py ix gy (trip1.sl.dma0_2 fy') (hout py fy' hfy))) $$ HY'
  ihave HZa := (Entails.of_eq (out_Z (F := F) d L t pz ix gz (trip1.sl.dma0_3 fz') (hout pz fz' hfz))) $$ HZ'
  have hrest : bigSep (Finset.univ.erase t) (chunkAt (F := F) d L px py pz ix gx gy gz t.val)
      = bigSep (Finset.univ.erase t) (chunkAt (F := F) d L px py pz ix gx gy gz (t.val + 1)) := by
    refine bigSep_congr fun u hu => ?_
    have hne : u.val ≠ t.val := fun e => (Finset.mem_erase.mp hu).1 (Fin.ext e)
    unfold chunkAt
    by_cases h : u.val < t.val
    · rw [if_pos h, if_pos (by omega)]
    · rw [if_neg h, if_neg (by omega)]
  ihave Hrest' := (Entails.of_eq hrest) $$ Hrest
  rw [SparseCore.bigSep_erase' (Finset.mem_univ t) (Φ := chunkAt d L px py pz ix gx gy gz (t.val + 1)),
    show chunkAt d L px py pz ix gx gy gz (t.val + 1) t = chunk d L ix (diff px ix) (diff py ix) (diff pz ix) t from if_pos (Nat.lt_succ_self _)]
  unfold chunk
  isplitl [Hmw]; · iexact Hmw
  isplitl [Hx]; · iexact Hx
  isplitl [Hy]; · iexact Hy
  isplitl [Hz]; · iexact Hz
  isplitl [Hi]; · iexists _; iexact Hi
  isplitl [Htx]; · iexists _; iexact Htx
  isplitl [Hty]; · iexists _; iexact Hty
  isplitl [Htz]; · iexists _; iexact Htz
  isplitl [HIa HXa HYa HZa Hrest']
  · isplitl [HIa HXa HYa HZa]
    · isplitl [HIa]; · iexact HIa
      isplitl [HXa]; · iexact HXa
      isplitl [HYa]; · iexact HYa
      iexact HZa
    · iexact Hrest'
  isplitl [Hs3]; · iexact Hs3
  isplitl [Hs4]; · iexact Hs4
  isplitl [Hs5]; · iexact Hs5
  isplitl [Hs6]; · iexact Hs6
  iexists _; isplitr; rotate_left
  · iexact HO
  · ipureintro
    intro p hp
    simp only [Finset.mem_insert] at hp
    rcases hp with rfl | rfl | rfl | rfl | hp
    · exact Or.inr rfl
    · exact Or.inr rfl
    · exact Or.inr rfl
    · exact Or.inr rfl
    · exact hW' p hp

end Cert.Flot
-- ==== Proof.Task.lean ====
/-
  A vector subcore's whole task: the three tables in, then its two chunks. What the launch hands it and takes back.
-/
module

public import proofs.«01_k».proof.Proof.TileChunk

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "pX" => (Memref.whole Cert.KernelIdeal.main_v7_scv : Memref Cert.KernelIdeal.sig Kind.scVector Space.hbm Cert.KernelIdeal.S8192 EltTy.f32)
local notation "pY" => (Memref.whole Cert.KernelIdeal.main_v9_scv : Memref Cert.KernelIdeal.sig Kind.scVector Space.hbm Cert.KernelIdeal.S8192 EltTy.f32)
local notation "pZ" => (Memref.whole Cert.KernelIdeal.main_v11_scv : Memref Cert.KernelIdeal.sig Kind.scVector Space.hbm Cert.KernelIdeal.S8192 EltTy.f32)
local notation "pI" => (Memref.whole Cert.KernelIdeal.main_v4_scv : Memref Cert.KernelIdeal.sig Kind.scVector Space.hbm Cert.KernelIdeal.S262144 EltTy.i32)
local notation "qX" => (Memref.whole Cert.KernelIdeal.main_v12_0_scv : Memref Cert.KernelIdeal.sig Kind.scVector Space.hbm Cert.KernelIdeal.S262144 EltTy.f32)
local notation "qY" => (Memref.whole Cert.KernelIdeal.main_v12_1_scv : Memref Cert.KernelIdeal.sig Kind.scVector Space.hbm Cert.KernelIdeal.S262144 EltTy.f32)
local notation "qZ" => (Memref.whole Cert.KernelIdeal.main_v12_2_scv : Memref Cert.KernelIdeal.sig Kind.scVector Space.hbm Cert.KernelIdeal.S262144 EltTy.f32)
local notation "sX" => (Memref.whole Cert.KernelIdeal.cc1_scratch0 : Memref Cert.KernelIdeal.sig Kind.scVector Space.vmem Cert.KernelIdeal.S8192 EltTy.f32)
local notation "sY" => (Memref.whole Cert.KernelIdeal.cc1_scratch1 : Memref Cert.KernelIdeal.sig Kind.scVector Space.vmem Cert.KernelIdeal.S8192 EltTy.f32)
local notation "sZ" => (Memref.whole Cert.KernelIdeal.cc1_scratch2 : Memref Cert.KernelIdeal.sig Kind.scVector Space.vmem Cert.KernelIdeal.S8192 EltTy.f32)
local notation "sI" => (Memref.whole Cert.KernelIdeal.cc1_scratch3 : Memref Cert.KernelIdeal.sig Kind.scVector Space.vmem Cert.KernelIdeal.S4096 EltTy.i32)
local notation "tX" => (Memref.whole Cert.KernelIdeal.cc1_scratch4 : Memref Cert.KernelIdeal.sig Kind.scVector Space.vmem Cert.KernelIdeal.S4096 EltTy.f32)
local notation "tY" => (Memref.whole Cert.KernelIdeal.cc1_scratch5 : Memref Cert.KernelIdeal.sig Kind.scVector Space.vmem Cert.KernelIdeal.S4096 EltTy.f32)
local notation "tZ" => (Memref.whole Cert.KernelIdeal.cc1_scratch6 : Memref Cert.KernelIdeal.sig Kind.scVector Space.vmem Cert.KernelIdeal.S4096 EltTy.f32)

variable (d : Dev nD) (L : grid1.Coords)

/-- The seven scratch buffers, and the seven semaphores, of a subcore. -/
def scr : Finset (Ref sig .scVector) := {cc1_scratch0, cc1_scratch1, cc1_scratch2, cc1_scratch3, cc1_scratch4, cc1_scratch5, cc1_scratch6}
/-- The semaphores a task's copies use. -/
def sms : Finset (SemLoc sig) := {.dma cc1_scoped0.sem, .dma cc1_scoped1.sem, .dma cc1_scoped2.sem, .dma cc1_scoped3.sem, .dma cc1_scoped4.sem,
  .dma cc1_scoped5.sem, .dma cc1_scoped6.sem}

/-- Each scratch buffer belongs to its tile. -/
theorem scr_owner : ∀ b ∈ scr, ∀ (c : Fin τ.nSC) (j : Fin τ.nSub), ((Proc.scVector c j).devRef b).owner = .proc (Proc.scVector c j) := by
  intro b hb c j
  simp only [scr, Finset.mem_insert, Finset.mem_singleton] at hb
  rcases hb with rfl | rfl | rfl | rfl | rfl | rfl | rfl <;> rfl

/-- The semaphores are the kernel's own. -/
theorem sms_scoped : ∀ s ∈ sms, s.isScoped .scVector = true := by decide

/-- Something of every scratch buffer, spelt out. -/
theorem bigSep_scr (Φ : Ref sig .scVector → sProp 𝕄) :
    bigSep scr Φ = iprop(Φ cc1_scratch0 ∗ Φ cc1_scratch1 ∗ Φ cc1_scratch2 ∗ Φ cc1_scratch3 ∗ Φ cc1_scratch4 ∗ Φ cc1_scratch5 ∗ Φ cc1_scratch6) := by
  rw [scr, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Something of every semaphore, spelt out. -/
theorem bigSep_sms (Φ : SemLoc sig → sProp 𝕄) :
    bigSep sms Φ = iprop(Φ (.dma cc1_scoped0.sem) ∗ Φ (.dma cc1_scoped1.sem) ∗ Φ (.dma cc1_scoped2.sem) ∗ Φ (.dma cc1_scoped3.sem)
      ∗ Φ (.dma cc1_scoped4.sem) ∗ Φ (.dma cc1_scoped5.sem) ∗ Φ (.dma cc1_scoped6.sem)) := by
  rw [sms, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A subcore's scratch buffers, each at some contents. -/
def scrPts : sProp 𝕄 :=
  iprop((∃ f, (thr d L).loc cc1_scratch0 ↦{fullShare} f) ∗ (∃ f, (thr d L).loc cc1_scratch1 ↦{fullShare} f) ∗ (∃ f, (thr d L).loc cc1_scratch2 ↦{fullShare} f)
    ∗ (∃ f, (thr d L).loc cc1_scratch3 ↦{fullShare} f) ∗ (∃ f, (thr d L).loc cc1_scratch4 ↦{fullShare} f) ∗ (∃ f, (thr d L).loc cc1_scratch5 ↦{fullShare} f)
    ∗ (∃ f, (thr d L).loc cc1_scratch6 ↦{fullShare} f))

/-- A tile's buffers hold its scratch. -/
theorem ownBufs_V : ∃ R : sProp 𝕄, (ownBufs (thr d L) : sProp 𝕄) = iprop(scrPts d L ∗ R) := by
  have hs : scr.map ⟨(Proc.scVector (cV L) (jV L)).devRef, Proc.devRef_injective _⟩ ⊆ ownRefs (τ := τ) (.scVector (cV L) (jV L)) := by
    intro b hb
    obtain ⟨r, hr, rfl⟩ := Finset.mem_map.mp hb
    exact SparseCore.Cfg.mem_ownRefs_of_owner (scr_owner r hr _ _)
  have h := SparseCore.bigSep_sdiff_split' hs (Φ := fun b => (iprop(∃ f, ((d, b) : Loc nD τ sig) ↦{fullShare} f) : sProp 𝕄))
  rw [SparseCore.bigSep_map, bigSep_scr] at h
  exact ⟨_, h⟩

/-- A subcore's semaphores, each at zero. -/
def smsPts : sProp 𝕄 :=
  iprop(semVal (thr d L, SemLoc.dma cc1_scoped0.sem) 0 ∗ semVal (thr d L, SemLoc.dma cc1_scoped1.sem) 0 ∗ semVal (thr d L, SemLoc.dma cc1_scoped2.sem) 0
    ∗ semVal (thr d L, SemLoc.dma cc1_scoped3.sem) 0 ∗ semVal (thr d L, SemLoc.dma cc1_scoped4.sem) 0 ∗ semVal (thr d L, SemLoc.dma cc1_scoped5.sem) 0
    ∗ semVal (thr d L, SemLoc.dma cc1_scoped6.sem) 0)

/-- A tile's semaphores hold its copies' ones, at zero. -/
theorem ownSems0_V : ∃ R : sProp 𝕄, (ownSems0 (thr d L) : sProp 𝕄) = iprop(smsPts d L ∗ R) := by
  have hs : sms.map ⟨fun s => ((thr d L, s) : GSem nD τ sig), fun _ _ h => (Prod.ext_iff.mp h).2⟩ ⊆ ownCells (thr d L) := by
    intro g hg
    obtain ⟨s, hs, rfl⟩ := Finset.mem_map.mp hg
    exact mem_ownCells.mpr ⟨rfl, sms_scoped s hs⟩
  have h := SparseCore.bigSep_sdiff_split' hs (Φ := fun g => (semVal g 0 : sProp 𝕄))
  rw [SparseCore.bigSep_map, bigSep_sms] at h
  exact ⟨_, h⟩

/-- The read shares of the three coordinate tables. -/
def tables (q : PosShare TreeShare) (px py pz : S8192.Idx → F .f32) : sProp 𝕄 :=
  iprop((xLoc d ↦{q} (px : Buf (Elt F) (xLoc d))) ∗ (yLoc d ↦{q} (py : Buf (Elt F) (yLoc d))) ∗ (zLoc d ↦{q} (pz : Buf (Elt F) (zLoc d))))

/-- A tile makes two trips. -/
theorem trips1 : Scf.trips k1_t1_loop.lb k1_t1_loop.ub k1_t1_loop.st = 2 := by decide

set_option maxHeartbeats 1000000 in
/-- The task: given its shares of the tables and its chunks, it leaves the differences in its chunks of the results. -/
theorem tile_body (hF : (K (F := F)).Facts) (q : PosShare TreeShare) (px py pz : S8192.Idx → F .f32) (ix : S262144.Idx → BitVec 32)
    (gx gy gz : S262144.Idx → F .f32) (hix : ∀ e, (ix e).toNat < 8192)
    (O : CellTallies nD τ sig (HIx 1)) (W : Waits sig (HIx 1)) (hO : ∀ g, O g none = 0) :
    iprop(levAts (K (F := F)).L (K (F := F)).lev ∗ emp
        ∗ (tables d q px py pz ∗ bigSep Finset.univ (chunkAt d L px py pz ix gx gy gz 0))
        ∗ scopedBufs (thr d L) ∗ scopedSems0 (thr d L) ∗ owes (thr d L) O W)
      ⊢ wp frame (wpE (defs₀ (F := F)) 𝒱₀ (thr d L) none) Set.univ
          (cc1_k L pX (Memref.isWhole_whole _) pY (Memref.isWhole_whole _) pZ (Memref.isWhole_whole _) pI (Memref.isWhole_whole _)
            qX (Memref.isWhole_whole _) qY (Memref.isWhole_whole _) qZ (Memref.isWhole_whole _)
            sX (Memref.isWhole_whole _) sY (Memref.isWhole_whole _) sZ (Memref.isWhole_whole _) sI (Memref.isWhole_whole _)
            tX (Memref.isWhole_whole _) tY (Memref.isWhole_whole _) tZ (Memref.isWhole_whole _)
            cc1_scoped0 cc1_scoped1 cc1_scoped2 cc1_scoped3 cc1_scoped4 cc1_scoped5 cc1_scoped6)
          fun _ => iprop((tables d q px py pz ∗ bigSep Finset.univ (chunkAt d L px py pz ix gx gy gz 2))
            ∗ scopedBufs (thr d L) ∗ scopedSems0 (thr d L)
            ∗ ∃ W', ⌜∀ p ∈ W', p ∈ W ∨ p.2 = none⌝ ∗ owes (thr d L) O W') := by
  obtain ⟨RB, hRB⟩ := ownBufs_V (F := F) d L
  obtain ⟨RS, hRS⟩ := ownSems0_V (F := F) d L
  simp only [cc1_k_eq_skeleton]; unfold cc1_k_skel
  rw [(K (F := F)).scopedBufs_V hF d (cV L) (jV L), SparseCore.Cfg.scopedSems0_V (Val := Elt F) d (cV L) (jV L), hRB, hRS]
  unfold scrPts smsPts tables
  iintro ⟨#Hlv, -, ⟨⟨Hpx, Hpy, Hpz⟩, Hch⟩, ⟨⟨⟨%f0, H0⟩, ⟨%f1, H1⟩, ⟨%f2, H2⟩, ⟨%f3, H3⟩, ⟨%f4, H4⟩, ⟨%f5, H5⟩, ⟨%f6, H6⟩⟩, HRB⟩,
    ⟨⟨Hs0, Hs1, Hs2, Hs3, Hs4, Hs5, Hs6⟩, HRS⟩, HO⟩
  ihave Hmw := (show levAts (K (F := F)).L (K (F := F)).lev ⊢ Transfers.MayWaits (thr d L) (none : HIx 1) O from
    (K (F := F)).mayWaits_none (thr := thr d L) hO) $$ Hlv
  ihave Hpx' := (show (xLoc d ↦{q} (px : Buf (Elt F) (xLoc d)) : sProp 𝕄) ⊢ (pX).view.loc (thr d L) ↦{q} px from .rfl) $$ Hpx
  ihave Hpy' := (show (yLoc d ↦{q} (py : Buf (Elt F) (yLoc d)) : sProp 𝕄) ⊢ (pY).view.loc (thr d L) ↦{q} py from .rfl) $$ Hpy
  ihave Hpz' := (show (zLoc d ↦{q} (pz : Buf (Elt F) (zLoc d)) : sProp 𝕄) ⊢ (pZ).view.loc (thr d L) ↦{q} pz from .rfl) $$ Hpz
  ihave H0' := (show ((thr d L).loc cc1_scratch0 ↦{fullShare} f0 : sProp 𝕄) ⊢ (sX).view.loc (thr d L) ↦{fullShare} f0 from .rfl) $$ H0
  ihave H1' := (show ((thr d L).loc cc1_scratch1 ↦{fullShare} f1 : sProp 𝕄) ⊢ (sY).view.loc (thr d L) ↦{fullShare} f1 from .rfl) $$ H1
  ihave H2' := (show ((thr d L).loc cc1_scratch2 ↦{fullShare} f2 : sProp 𝕄) ⊢ (sZ).view.loc (thr d L) ↦{fullShare} f2 from .rfl) $$ H2
  sl_exec
  have hread : ∀ (b : Ref sig .scVector) (f w : b.ty.Contents (Elt F)), View.write (Elt F) (View.whole b) f w Finset.univ = w := View.write_whole_univ
  ihave H0a := (Entails.of_eq (congrArg (fun w => ((sX).view.loc (thr d L) ↦{fullShare} w : sProp 𝕄)) (hread cc1_scratch0 f0 (tile_body.sl.dma0 px)))) $$ H0'
  ihave H1a := (Entails.of_eq (congrArg (fun w => ((sY).view.loc (thr d L) ↦{fullShare} w : sProp 𝕄)) (hread cc1_scratch1 f1 (tile_body.sl.dma0_1 py)))) $$ H1'
  ihave H2a := (Entails.of_eq (congrArg (fun w => ((sZ).view.loc (thr d L) ↦{fullShare} w : sProp 𝕄)) (hread cc1_scratch2 f2 (tile_body.sl.dma0_2 pz)))) $$ H2'
  sl_for (inv1 d L px py pz ix gx gy gz O W) $$ [H0a H1a H2a H3 H4 H5 H6 Hch Hs3 Hs4 Hs5 Hs6 HO]
  case region =>
    intro t a
    exact trip1 d L px py pz ix gx gy gz hix O W t a
  · unfold inv1
    isplitr; · iexact Hmw
    isplitl [H0a]; · iexact H0a
    isplitl [H1a]; · iexact H1a
    isplitl [H2a]; · iexact H2a
    isplitl [H3]; · iexists _; iexact H3
    isplitl [H4]; · iexists _; iexact H4
    isplitl [H5]; · iexists _; iexact H5
    isplitl [H6]; · iexists _; iexact H6
    isplitl [Hch]; · iexact Hch
    isplitl [Hs3]; · iexact Hs3
    isplitl [Hs4]; · iexact Hs4
    isplitl [Hs5]; · iexact Hs5
    isplitl [Hs6]; · iexact Hs6
    iexists _; isplitr; rotate_left
    · iexact HO
    · ipureintro
      intro p hp
      simp only [Finset.mem_insert] at hp
      rcases hp with rfl | rfl | rfl | hp
      · exact Or.inr rfl
      · exact Or.inr rfl
      · exact Or.inr rfl
      · exact Or.inl hp
  iintro %_ HI
  rw [trips1]
  unfold inv1
  icases HI with ⟨-, H0, H1, H2, ⟨%g3, H3⟩, ⟨%g4, H4⟩, ⟨%g5, H5⟩, ⟨%g6, H6⟩, Hch, Hs3, Hs4, Hs5, Hs6, %W', %hW', HO⟩
  sl_exec
  sl_step
  isplitl [Hpx' Hpy' Hpz' Hch]
  · isplitl [Hpx' Hpy' Hpz']
    · isplitl [Hpx']; · iexact Hpx'
      isplitl [Hpy']; · iexact Hpy'
      iexact Hpz'
    · iexact Hch
  isplitl [H0 H1 H2 H3 H4 H5 H6 HRB]
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    · iexact HRB
  isplitl [Hs0 Hs1 Hs2 Hs3 Hs4 Hs5 Hs6 HRS]
  · isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    · iexact HRS
  iexists W'; isplitr
  · ipureintro; exact hW'
  · iexact HO

end Cert.Flot
-- ==== Proof.Calls.lean ====
/-
  The SparseCore call as a whole: what the TensorCore hands the 32 tasks and takes back, and the launch theorem's
  obligations for them.
-/
module

public import proofs.«01_k».proof.Proof.Task

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "pX" => (Memref.whole Cert.KernelIdeal.main_v7_scv : Memref Cert.KernelIdeal.sig Kind.scVector Space.hbm Cert.KernelIdeal.S8192 EltTy.f32)
local notation "pY" => (Memref.whole Cert.KernelIdeal.main_v9_scv : Memref Cert.KernelIdeal.sig Kind.scVector Space.hbm Cert.KernelIdeal.S8192 EltTy.f32)
local notation "pZ" => (Memref.whole Cert.KernelIdeal.main_v11_scv : Memref Cert.KernelIdeal.sig Kind.scVector Space.hbm Cert.KernelIdeal.S8192 EltTy.f32)
local notation "pI" => (Memref.whole Cert.KernelIdeal.main_v4_scv : Memref Cert.KernelIdeal.sig Kind.scVector Space.hbm Cert.KernelIdeal.S262144 EltTy.i32)
local notation "qX" => (Memref.whole Cert.KernelIdeal.main_v12_0_scv : Memref Cert.KernelIdeal.sig Kind.scVector Space.hbm Cert.KernelIdeal.S262144 EltTy.f32)
local notation "qY" => (Memref.whole Cert.KernelIdeal.main_v12_1_scv : Memref Cert.KernelIdeal.sig Kind.scVector Space.hbm Cert.KernelIdeal.S262144 EltTy.f32)
local notation "qZ" => (Memref.whole Cert.KernelIdeal.main_v12_2_scv : Memref Cert.KernelIdeal.sig Kind.scVector Space.hbm Cert.KernelIdeal.S262144 EltTy.f32)
local notation "sX" => (Memref.whole Cert.KernelIdeal.cc1_scratch0 : Memref Cert.KernelIdeal.sig Kind.scVector Space.vmem Cert.KernelIdeal.S8192 EltTy.f32)
local notation "sY" => (Memref.whole Cert.KernelIdeal.cc1_scratch1 : Memref Cert.KernelIdeal.sig Kind.scVector Space.vmem Cert.KernelIdeal.S8192 EltTy.f32)
local notation "sZ" => (Memref.whole Cert.KernelIdeal.cc1_scratch2 : Memref Cert.KernelIdeal.sig Kind.scVector Space.vmem Cert.KernelIdeal.S8192 EltTy.f32)
local notation "sI" => (Memref.whole Cert.KernelIdeal.cc1_scratch3 : Memref Cert.KernelIdeal.sig Kind.scVector Space.vmem Cert.KernelIdeal.S4096 EltTy.i32)
local notation "tX" => (Memref.whole Cert.KernelIdeal.cc1_scratch4 : Memref Cert.KernelIdeal.sig Kind.scVector Space.vmem Cert.KernelIdeal.S4096 EltTy.f32)
local notation "tY" => (Memref.whole Cert.KernelIdeal.cc1_scratch5 : Memref Cert.KernelIdeal.sig Kind.scVector Space.vmem Cert.KernelIdeal.S4096 EltTy.f32)
local notation "tZ" => (Memref.whole Cert.KernelIdeal.cc1_scratch6 : Memref Cert.KernelIdeal.sig Kind.scVector Space.vmem Cert.KernelIdeal.S4096 EltTy.f32)

/-- The SparseCore call's arguments on each device — the coordinate tables and the neighbour indices — and what its
    results hold before it. -/
structure Args (F : FTy → Type) where
  px : Dev nD → S8192.Idx → F .f32
  py : Dev nD → S8192.Idx → F .f32
  pz : Dev nD → S8192.Idx → F .f32
  ix : Dev nD → S262144.Idx → BitVec 32
  gx : Dev nD → S262144.Idx → F .f32
  gy : Dev nD → S262144.Idx → F .f32
  gz : Dev nD → S262144.Idx → F .f32

/-- The task's place in the grid. -/
def coordsV (c : Fin (grid1.bound 0)) (s : Fin (grid1.bound 1)) : grid1.Coords :=
  fun | 0 => c | 1 => s | ⟨_ + 2, h⟩ => absurd h (Nat.not_lt.2 (Nat.le_add_left _ _))

/-- The share of the tables a task reads under. -/
def shr (L : grid1.Coords) : PosShare TreeShare := Transfers.shareTokN fullShare (16 * (L 0).val + (L 1).val)

/-- What task `L` of device `d` holds before (`n = 0`) and after (`n = 2`) it. -/
def part (A : Args F) (d : Dev nD) (n : ℕ) (L : grid1.Coords) : sProp 𝕄 :=
  iprop(tables d (shr L) (A.px d) (A.py d) (A.pz d)
    ∗ bigSep Finset.univ (chunkAt d L (A.px d) (A.py d) (A.pz d) (A.ix d) (A.gx d) (A.gy d) (A.gz d) n))

/-- What a tile holds of a chunk may be handed over. -/
instance chunkAt_storable (d : Dev nD) (L : grid1.Coords) (px py pz : S8192.Idx → F .f32) (ix : S262144.Idx → BitVec 32) (gx gy gz : S262144.Idx → F .f32) (n : ℕ)
    (t : Fin k1_t1_loop.trips) : BI.Storable (upEmb : UEmb _ 𝕄) (chunkAt d L px py pz ix gx gy gz n t) := by
  unfold chunkAt chunk; split <;> infer_instance

/-- What a task holds may be handed over. -/
instance part_storable (A : Args F) (d : Dev nD) (n : ℕ) (L : grid1.Coords) : BI.Storable (upEmb : UEmb _ 𝕄) (part A d n L) := by
  unfold part tables; infer_instance

/-- What the tasks of SparseCore `c` hold together. -/
def parts (A : Args F) (d : Dev nD) (n : ℕ) (c : Fin (grid1.bound 0)) : sProp 𝕄 :=
  bigSep Finset.univ fun i : Fin (grid1.bound 1) => part A d n (coordsV c i)

/-- So may what one SparseCore's tasks hold. -/
instance parts_storable (A : Args F) (d : Dev nD) (n : ℕ) (c : Fin (grid1.bound 0)) : BI.Storable (upEmb : UEmb _ 𝕄) (parts A d n c) := by
  unfold parts; infer_instance

/-- The handshakes' payloads of the call. -/
def P (A : Args F) : (K (F := F)).Pay (nD := nD) (Val := Elt F) (Name := ℕ) (U := UU) where
  st := fun q d c => match q with | 0 => parts A d 0 c
  dn := fun q d c => match q with | 0 => parts A d 2 c
  go := fun q d c i => match q with | 0 => part A d 0 (coordsV c i)
  td := fun q d c i => match q with | 0 => part A d 2 (coordsV c i)
  x := fun _ _ => iprop(emp)

/-- Everything the handshakes carry may be handed over. -/
instance P_storable (A : Args F) : (P (F := F) A).IsStorable where
  st q d c := match q with
    | 0 => parts_storable A d 0 c
  dn q d c := match q with
    | 0 => parts_storable A d 2 c
  go q d c i := match q with
    | 0 => (inferInstance : BI.Storable (upEmb : UEmb _ 𝕄) (part A d 0 (coordsV c i)))
  td q d c i := match q with
    | 0 => (inferInstance : BI.Storable (upEmb : UEmb _ 𝕄) (part A d 2 (coordsV c i)))

/-- What a SparseCore is handed is what its tiles are handed, and comes back so. -/
theorem vecSplit (A : Args F) : (K (F := F)).VecSplit' (P A) 0 := by
  intro d c
  show (bigSep Finset.univ fun i : Fin ((K (F := F)).nSub 0) => part A d 0 (coordsV c i) : sProp 𝕄)
    ⊢ |={Set.univ}=> iprop((bigSep Finset.univ fun i : Fin ((K (F := F)).nSub 0) => part A d 0 (coordsV c i))
      ∗ ((bigSep Finset.univ fun i : Fin ((K (F := F)).nSub 0) => part A d 2 (coordsV c i))
        -∗ bigSep Finset.univ fun i : Fin ((K (F := F)).nSub 0) => part A d 2 (coordsV c i)))
  iintro H; imodintro
  isplitl [H]; · iexact H
  iintro H; iexact H

/-- The program a tile runs is the kernel's body at the tile's coordinates. -/
theorem defs₀_vector (c : Fin τ.nSC) (s : Fin τ.nSub) :
    defs₀ (F := F) (.scVector c s) 1 ()
      = SparseCore.onTile hcore1 hsub1 (fun c s => cc1_k (coordsV c s)
          pX (Memref.isWhole_whole _) pY (Memref.isWhole_whole _) pZ (Memref.isWhole_whole _) pI (Memref.isWhole_whole _)
          qX (Memref.isWhole_whole _) qY (Memref.isWhole_whole _) qZ (Memref.isWhole_whole _)
          sX (Memref.isWhole_whole _) sY (Memref.isWhole_whole _) sZ (Memref.isWhole_whole _) sI (Memref.isWhole_whole _)
          tX (Memref.isWhole_whole _) tY (Memref.isWhole_whole _) tZ (Memref.isWhole_whole _)
          cc1_scoped0 cc1_scoped1 cc1_scoped2 cc1_scoped3 cc1_scoped4 cc1_scoped5 cc1_scoped6) ⟨⟩ c s := rfl

/-- A task's record of its waits, weakened to what its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task keeps its side of the handshake, when the indices are inside the tables. -/
theorem tileObl (A : Args F) (hix : ∀ d e, (A.ix d e).toNat < 8192) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (shr (coordsV ⟨_, hci.1⟩ ⟨_, hci.2⟩)) (A.px d) (A.py d) (A.pz d) (A.ix d) (A.gx d) (A.gy d) (A.gz d)
    (hix d) O W hO).trans (wp_mono frame _ _ fun _ => obl_post)

end Cert.Flot
-- ==== Proof.Deal.lean ====
/-
  The arrays of the SparseCore call dealt to its 32 tasks and collected again: the tables by read shares, the edge arrays
  by chunks of 4096 edges.
-/
module

public import proofs.«01_k».proof.Proof.Calls

@[expose] public section

set_option maxRecDepth 16384

noncomputable section

namespace Cert.Flot

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tasks, and the chunks of all of them. -/
abbrev Tsk : Type := Fin (grid1.bound 0) × Fin (grid1.bound 1)
/-- A chunk: the tile and the trip that handles it. -/
abbrev Chk : Type := Tsk × Fin k1_t1_loop.trips

/-- A task's place in the grid. -/
abbrev pl (p : Tsk) : grid1.Coords := coordsV p.1 p.2

/-- The edges of a chunk. -/
def chs (p : Chk) : Finset S262144.Idx := ch (base (pl p.1) p.2.val)

/-- The first edge of a chunk, by its SparseCore, tile and trip. -/
theorem base_pl (p : Chk) : base (pl p.1) p.2.val = 16384 * p.1.2.val + 8192 * p.1.1.val + 4096 * p.2.val := rfl

/-- Two chunks share no edge. -/
theorem chs_disj (p q : Chk) (h : p ≠ q) : Disjoint (chs p) (chs q) := by
  refine Finset.disjoint_left.mpr fun e hp hq => h ?_
  unfold chs at hp hq
  rw [mem_ch, base_pl] at hp hq
  have h1 : p.1.1.val < 2 := p.1.1.isLt
  have h2 : q.1.1.val < 2 := q.1.1.isLt
  have h3 := lt_t1 p.2
  have h4 := lt_t1 q.2
  refine Prod.ext (Prod.ext (Fin.ext ?_) (Fin.ext ?_)) (Fin.ext ?_) <;> omega

/-- A tile handles two chunks. -/
theorem trips1' : k1_t1_loop.trips = 2 := trips1

/-- The chunks are all edges. -/
theorem chs_cover : (Finset.univ : Finset Chk).biUnion chs = Finset.univ := by
  refine Finset.eq_univ_iff_forall.mpr fun e => ?_
  have he : (e 0).val < 262144 := (e 0).isLt
  refine Finset.mem_biUnion.mpr ⟨((⟨(e 0).val % 16384 / 8192, show _ < 2 by omega⟩, ⟨(e 0).val / 16384, show _ < 16 by omega⟩),
    ⟨(e 0).val % 8192 / 4096, by rw [trips1']; omega⟩), Finset.mem_univ _, ?_⟩
  unfold chs
  rw [mem_ch, base_pl]
  show 16384 * ((e 0).val / 16384) + 8192 * ((e 0).val % 16384 / 8192) + 4096 * ((e 0).val % 8192 / 4096) ≤ (e 0).val
    ∧ (e 0).val < 16384 * ((e 0).val / 16384) + 8192 * ((e 0).val % 16384 / 8192) + 4096 * ((e 0).val % 8192 / 4096) + 4096
  omega

/-- A buffer is held chunk by chunk. -/
theorem pts_chunks (ℓ : Loc nD τ sig) (Kc : Chk → Finset (Idx ℓ)) (hd : ∀ p q, p ≠ q → Disjoint (Kc p) (Kc q))
    (hc : (Finset.univ : Finset Chk).biUnion Kc = Finset.univ) (f : Buf (Elt F) ℓ) :
    (ℓ ↦{fullShare} f : sProp 𝕄) = bigSep Finset.univ fun p : Tsk => bigSep Finset.univ fun t => ℓ ↦[Kc (p, t)]{fullShare} f := by
  rw [← hc, pointsTo_biUnion _ _ (fun p _ q _ h => hd p q h), bigSep_univ_prod]

/-- The tasks' shares of one table. -/
theorem pts_shares (ℓ : Loc nD τ sig) (f : Buf (Elt F) ℓ) :
    (ℓ ↦{fullShare} f : sProp 𝕄) ⊣⊢ iprop((ℓ ↦{Transfers.shareDrop fullShare 32} f) ∗ bigSep Finset.univ fun p : Tsk => ℓ ↦{shr (pl p)} f) := by
  have h : (ℓ ↦{fullShare} f : sProp 𝕄) ⊣⊢ iprop((ℓ ↦{Transfers.shareDrop fullShare 32} f)
      ∗ BI.bigSep Finset.univ (fun i : Fin 32 => ℓ ↦{Transfers.shareTok fullShare 32 i} f)) := Transfers.pointsTo_toks fullShare 32
  rw [bigSep_univ_equiv (α := Tsk) (show Tsk ≃ Fin 32 from finProdFinEquiv (m := 2) (n := 16))] at h
  have e : ∀ p : Tsk, Transfers.shareTok fullShare 32 ((show Tsk ≃ Fin 32 from finProdFinEquiv (m := 2) (n := 16)) p) = shr (pl p) := by
    intro p
    show Transfers.shareTokN fullShare (p.2.val + 16 * p.1.val) = Transfers.shareTokN fullShare (16 * p.1.val + p.2.val)
    rw [Nat.add_comm]
  simpa only [e] using h

/-- The call's arrays whole: the tables, the indices, and the results at `fx`, `fy`, `fz`. -/
def wholes (A : Args F) (d : Dev nD) (fx fy fz : S262144.Idx → F .f32) : sProp 𝕄 :=
  iprop((xLoc d ↦{fullShare} (A.px d : Buf (Elt F) (xLoc d))) ∗ (yLoc d ↦{fullShare} (A.py d : Buf (Elt F) (yLoc d)))
    ∗ (zLoc d ↦{fullShare} (A.pz d : Buf (Elt F) (zLoc d))) ∗ (iLoc d ↦{fullShare} (A.ix d : Buf (Elt F) (iLoc d)))
    ∗ (oxLoc d ↦{fullShare} (fx : Buf (Elt F) (oxLoc d))) ∗ (oyLoc d ↦{fullShare} (fy : Buf (Elt F) (oyLoc d)))
    ∗ (ozLoc d ↦{fullShare} (fz : Buf (Elt F) (ozLoc d))))

/-- What the TensorCore keeps of the tables while the tasks run. -/
def kept (A : Args F) (d : Dev nD) : sProp 𝕄 :=
  iprop((xLoc d ↦{Transfers.shareDrop fullShare 32} (A.px d : Buf (Elt F) (xLoc d))) ∗ (yLoc d ↦{Transfers.shareDrop fullShare 32} (A.py d : Buf (Elt F) (yLoc d)))
    ∗ (zLoc d ↦{Transfers.shareDrop fullShare 32} (A.pz d : Buf (Elt F) (zLoc d))))

/-- The tasks' pieces with the results at `fx`, `fy`, `fz`. -/
def dealt (A : Args F) (d : Dev nD) (fx fy fz : S262144.Idx → F .f32) : sProp 𝕄 :=
  bigSep Finset.univ fun p : Tsk => iprop(tables d (shr (pl p)) (A.px d) (A.py d) (A.pz d) ∗ bigSep Finset.univ fun t => chunk d (pl p) (A.ix d) fx fy fz t)

/-- What all tasks hold before the call is the arrays dealt out, the results as the call finds them. -/
theorem dealt_before (A : Args F) (d : Dev nD) :
    (bigSep Finset.univ fun c : Fin (grid1.bound 0) => parts A d 0 c) = dealt A d (A.gx d) (A.gy d) (A.gz d) := by
  unfold parts dealt
  rw [← bigSep_univ_prod (fun p : Tsk => part A d 0 (pl p))]
  rfl

/-- What all tasks hold after the call is the arrays dealt out, the results holding the differences. -/
theorem dealt_after (A : Args F) (d : Dev nD) :
    (bigSep Finset.univ fun c : Fin (grid1.bound 0) => parts A d 2 c)
      = dealt A d (diff (A.px d) (A.ix d)) (diff (A.py d) (A.ix d)) (diff (A.pz d) (A.ix d)) := by
  unfold parts dealt
  rw [← bigSep_univ_prod (fun p : Tsk => part A d 2 (pl p))]
  refine bigSep_congr fun p _ => ?_
  unfold part
  congr 1

/-- The arrays dealt out: the tables under the tasks' read shares, the neighbours and the three results whole. -/
theorem dealt_eq (A : Args F) (d : Dev nD) (fx fy fz : S262144.Idx → F .f32) :
    dealt A d fx fy fz = iprop(((bigSep Finset.univ fun p : Tsk => xLoc d ↦{shr (pl p)} (A.px d : Buf (Elt F) (xLoc d)))
      ∗ (bigSep Finset.univ fun p : Tsk => yLoc d ↦{shr (pl p)} (A.py d : Buf (Elt F) (yLoc d)))
      ∗ (bigSep Finset.univ fun p : Tsk => zLoc d ↦{shr (pl p)} (A.pz d : Buf (Elt F) (zLoc d))))
      ∗ (iLoc d ↦{fullShare} (A.ix d : Buf (Elt F) (iLoc d)))
      ∗ (oxLoc d ↦{fullShare} (fx : Buf (Elt F) (oxLoc d))) ∗ (oyLoc d ↦{fullShare} (fy : Buf (Elt F) (oyLoc d)))
      ∗ (ozLoc d ↦{fullShare} (fz : Buf (Elt F) (ozLoc d)))) := by
  unfold dealt tables chunk
  rw [pts_chunks (iLoc d) chs chs_disj chs_cover, pts_chunks (oxLoc d) chs chs_disj chs_cover, pts_chunks (oyLoc d) chs chs_disj chs_cover,
    pts_chunks (ozLoc d) chs chs_disj chs_cover]
  simp only [bigSep_sep']
  rfl

/-- The arrays dealt to the tasks. -/
theorem deal (A : Args F) (d : Dev nD) (fx fy fz : S262144.Idx → F .f32) : wholes A d fx fy fz ⊢ iprop(kept A d ∗ dealt A d fx fy fz) := by
  rw [dealt_eq]
  unfold wholes kept
  iintro ⟨Hx, Hy, Hz, Hr⟩
  ihave Hx := (pts_shares (xLoc d) _).1 $$ Hx
  ihave Hy := (pts_shares (yLoc d) _).1 $$ Hy
  ihave Hz := (pts_shares (zLoc d) _).1 $$ Hz
  icases Hx with ⟨Hx, Hx'⟩
  icases Hy with ⟨Hy, Hy'⟩
  icases Hz with ⟨Hz, Hz'⟩
  isplitl [Hx Hy Hz]
  · isplitl [Hx]; · iexact Hx
    isplitl [Hy]; · iexact Hy
    iexact Hz
  isplitl [Hx' Hy' Hz']
  · isplitl [Hx']; · iexact Hx'
    isplitl [Hy']; · iexact Hy'
    iexact Hz'
  iexact Hr

/-- The arrays collected from the tasks. -/
theorem collect (A : Args F) (d : Dev nD) (fx fy fz : S262144.Idx → F .f32) : iprop(kept A d ∗ dealt A d fx fy fz) ⊢ wholes A d fx fy fz := by
  rw [dealt_eq]
  unfold wholes kept
  iintro ⟨⟨Hx, Hy, Hz⟩, ⟨Hx', Hy', Hz'⟩, Hr⟩
  isplitl [Hx Hx']
  · iapply (pts_shares (xLoc d) _).2; isplitl [Hx] <;> iassumption
  isplitl [Hy Hy']
  · iapply (pts_shares (yLoc d) _).2; isplitl [Hy] <;> iassumption
  isplitl [Hz Hz']
  · iapply (pts_shares (zLoc d) _).2; isplitl [Hz] <;> iassumption
  iexact Hr

end Cert.Flot
-- ==== Proof.Host.lean ====
/-
  What the host program's lines leave in its buffers.
-/
module

public import proofs.«01_k».proof.Proof.Enter
public import proofs.«01_k».proof.Proof.Deal

@[expose] public section

set_option maxRecDepth 16384

noncomputable section

namespace Cert.Flot

open Cert.KernelIdeal Cert.KernelIdeal.Gen

open Idealize.ShloMosaic
open Idealize.ShloMosaic.SparseCore.Cfg (HIx)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (afterRegion)

variable {F : FTy → Type} [FloatOps F]

local notation "𝕄" => MT nD τ sig (HIx 1) (Elt F) ℕ UU ℕ

variable (m : (ℓ : Loc nD τ sig) → Buf (Elt F) ℓ)

/-! ## The contents the lines leave -/

/-- The host buffers at the launch. -/
def V0 (d : Dev nD) : HostVal F := fun b => m (d, b)

/-- After the first line, which transposes the points for the TensorCore call. -/
def VA (d : Dev nD) : HostVal F :=
  (StableHlo.unary main_arg0 main_v1 ((transpose S2x3x4096 [0, 2, 1] · transposes_S2x4096x3_S2x3x4096_0_2_1) :
    (⟨S2x4096x3, .f32⟩ : BufTy).Contents (Elt F) → (⟨S2x3x4096, .f32⟩ : BufTy).Contents (Elt F))).result (V0 m d)

/-- After the TensorCore call. -/
def VB (d : Dev nD) : HostVal F := afterRegion (pdats (VA m) 0 d) (VA m d)

/-- The points of device `d`. -/
def pts (d : Dev nD) : S2x4096x3.Idx → F .f32 := m ((SparseCore.T d).loc main_arg0)

/-- The TensorCore call's result on device `d`. -/
def near (d : Dev nD) : S2x32x4096.Idx → BitVec 32 := VB m d (Proc.devRef .tc main_v2)

/-- One coordinate of all points, as one list. -/
def coord (k : ℕ) (h : S8192x3.Slices ![0, k] S8192x1) (d : Dev nD) : S8192.Idx → F .f32 :=
  shapeCast S8192 (extractStridedSlice S8192x1 ![0, k] (shapeCast S8192x3 (pts m d) shapeCasts_S2x4096x3_S8192x3) h) shapeCasts_S8192x1_S8192

/-- What the SparseCore call is given: the coordinates, the neighbours in edge order, and the launch contents of its results. -/
def args : Args F where
  px := coord m 0 slices_S8192x3_S8192x1_0_0
  py := coord m 1 slices_S8192x3_S8192x1_0_1
  pz := coord m 2 slices_S8192x3_S8192x1_0_2
  ix d := shapeCast S262144 (transpose S2x4096x32 [0, 2, 1] (near m d) transposes_S2x32x4096_S2x4096x32_0_2_1) shapeCasts_S2x4096x32_S262144
  gx d := m (oxLoc d)
  gy d := m (oyLoc d)
  gz d := m (ozLoc d)

/-- One column of the differences. -/
def col (f : S262144.Idx → F .f32) : S262144x1.Idx → F .f32 := broadcastInDim S262144x1 ![0] bcast_S262144_S262144x1_0 f

/-- The second result: the three columns of differences. -/
def feats (d : Dev nD) : S262144x3.Idx → F .f32 :=
  concatenate S262144x3 1 [⟨S262144x1, col (diff ((args m).px d) ((args m).ix d))⟩, ⟨S262144x1, col (diff ((args m).py d) ((args m).ix d))⟩,
    ⟨S262144x1, col (diff ((args m).pz d) ((args m).ix d))⟩] concatenates_S262144x1_S262144x1_S262144x1_S262144x3_d1

/-- The device's number along the mesh axis, scaled to the points a device holds. -/
def shift (d : Dev nD) : IVec S_ 32 :=
  muli (Host.remui (Host.divui (constantI S_ 32 (Dev.word d)) (constantI S_ 32 1#32)) (constantI S_ 32 2#32)) (constantI S_ 32 8192#32)

/-- The first result: the neighbours, numbered over all devices' points. -/
def edges (d : Dev nD) : S262144.Idx → BitVec 32 :=
  addi ((args m).ix d) (broadcastInDim S262144 ![] bcast_S_S262144 (shift d))

/-- The buffers the SparseCore call takes. -/
def scRefs : Finset (DevRef τ sig) :=
  {Proc.devRef .tc main_v7, Proc.devRef .tc main_v9, Proc.devRef .tc main_v11, Proc.devRef .tc main_v4,
    Proc.devRef .tc main_v12_0, Proc.devRef .tc main_v12_1, Proc.devRef .tc main_v12_2}

/-- They are buffers of the host. -/
theorem scRefs_sub : scRefs ⊆ hostRefs := by decide

/-- The first result is one of them. -/
theorem sc_x : (Proc.devRef .tc main_v12_0 : DevRef τ sig) ∈ scRefs := by decide
/-- The second result is one of them. -/
theorem sc_y : (Proc.devRef .tc main_v12_1 : DevRef τ sig) ∈ scRefs := by decide
/-- The third result is one of them. -/
theorem sc_z : (Proc.devRef .tc main_v12_2 : DevRef τ sig) ∈ scRefs := by decide

/-- After the SparseCore call: its three results at the differences. -/
def VD (d : Dev nD) (W : HostVal F) : HostVal F :=
  Function.update (Function.update (Function.update W (Proc.devRef .tc main_v12_0) (diff ((args m).px d) ((args m).ix d)))
    (Proc.devRef .tc main_v12_1) (diff ((args m).py d) ((args m).ix d))) (Proc.devRef .tc main_v12_2) (diff ((args m).pz d) ((args m).ix d))

/-- Held with the results replaced, they are held under the replaced values. -/
theorem held_sc (d : Dev nD) (W : HostVal F) (fx fy fz : S262144.Idx → F .f32)
    (h7 : W (Proc.devRef .tc main_v7) = (args m).px d) (h9 : W (Proc.devRef .tc main_v9) = (args m).py d)
    (h11 : W (Proc.devRef .tc main_v11) = (args m).pz d) (h4 : W (Proc.devRef .tc main_v4) = (args m).ix d)
    (hx : W (Proc.devRef .tc main_v12_0) = fx) (hy : W (Proc.devRef .tc main_v12_1) = fy) (hz : W (Proc.devRef .tc main_v12_2) = fz) :
    (held (SparseCore.T d) scRefs W : sProp 𝕄) = wholes (args m) d fx fy fz := by
  unfold held scRefs wholes
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton, h7, h9, h11, h4, hx, hy, hz]

/-- The contents the call finds in the buffers it takes, and what lies in the points and its results. -/
structure Ready (d : Dev nD) (W : HostVal F) : Prop where
  a : W (Proc.devRef .tc main_arg0) = m ((SparseCore.T d).loc main_arg0)
  h7 : W (Proc.devRef .tc main_v7) = (args m).px d
  h9 : W (Proc.devRef .tc main_v9) = (args m).py d
  h11 : W (Proc.devRef .tc main_v11) = (args m).pz d
  h4 : W (Proc.devRef .tc main_v4) = (args m).ix d
  hx : W (Proc.devRef .tc main_v12_0) = (args m).gx d
  hy : W (Proc.devRef .tc main_v12_1) = (args m).gy d
  hz : W (Proc.devRef .tc main_v12_2) = (args m).gz d

/-- A buffer the TensorCore call does not write keeps what it held at the launch, unless the first line wrote it. -/
theorem VB_keeps (d : Dev nD) (r : Ref sig .tc) (h2 : r ≠ main_v2) (h1 : r ≠ main_v1) :
    VB m d (Proc.devRef .tc r) = m ((SparseCore.T d).loc r) := by
  have h := Pipeline.afterRegion_keeps (pdats (VA m) 0 d) (VA m d) (launch0.toP (Val := Elt F)).win.arr_inj (fun _ => rfl) r (fun w hw => by
    match w with
    | ⟨0, _⟩ => rfl
    | ⟨1, _⟩ => rfl
    | ⟨2, _⟩ => exact absurd hw.symm h2)
  refine h.trans ?_
  unfold VA
  rw [StableHlo.unary_result_ne _ _ _ _ _ _ h1]
  rfl

/-- The call's results aside, nothing changes. -/
theorem VD_keeps (d : Dev nD) (W : HostVal F) (r : Ref sig .tc) (hx : r ≠ main_v12_0) (hy : r ≠ main_v12_1) (hz : r ≠ main_v12_2) :
    VD m d W (Proc.devRef .tc r) = W (Proc.devRef .tc r) := by
  unfold VD
  rw [Function.update_of_ne (StableHlo.devRef_ne_of_ne hz), Function.update_of_ne (StableHlo.devRef_ne_of_ne hy), Function.update_of_ne (StableHlo.devRef_ne_of_ne hx)]

/-- The three results hold the differences. -/
theorem VD_x (d : Dev nD) (W : HostVal F) : VD m d W (Proc.devRef .tc main_v12_0) = diff ((args m).px d) ((args m).ix d) := by
  unfold VD
  rw [Function.update_of_ne (show (Proc.devRef .tc main_v12_0 : DevRef τ sig) ≠ Proc.devRef .tc main_v12_2 by decide),
    Function.update_of_ne (show (Proc.devRef .tc main_v12_0 : DevRef τ sig) ≠ Proc.devRef .tc main_v12_1 by decide), Function.update_self]

/-- The second coordinate's differences, after the SparseCore call. -/
theorem VD_y (d : Dev nD) (W : HostVal F) : VD m d W (Proc.devRef .tc main_v12_1) = diff ((args m).py d) ((args m).ix d) := by
  unfold VD
  rw [Function.update_of_ne (show (Proc.devRef .tc main_v12_1 : DevRef τ sig) ≠ Proc.devRef .tc main_v12_2 by decide), Function.update_self]

/-- The third coordinate's differences, after the SparseCore call. -/
theorem VD_z (d : Dev nD) (W : HostVal F) : VD m d W (Proc.devRef .tc main_v12_2) = diff ((args m).pz d) ((args m).ix d) := by
  unfold VD
  rw [Function.update_self]

/-- The buffers the call does not take are unchanged. -/
theorem VD_rest (d : Dev nD) (W : HostVal F) : ∀ b ∈ hostRefs \ scRefs, VD m d W b = W b := by
  intro b hb
  have hn := (Finset.mem_sdiff.mp hb).2
  have h0 : b ≠ Proc.devRef .tc main_v12_0 := fun e => hn (e.symm ▸ sc_x)
  have h1 : b ≠ Proc.devRef .tc main_v12_1 := fun e => hn (e.symm ▸ sc_y)
  have h2 : b ≠ Proc.devRef .tc main_v12_2 := fun e => hn (e.symm ▸ sc_z)
  unfold VD
  rw [Function.update_of_ne h2, Function.update_of_ne h1, Function.update_of_ne h0]

/-- All host buffers after the call: what it was given, at its results, and the rest as it was. -/
theorem held_done (d : Dev nD) (W : HostVal F) (hW : Ready m d W) :
    (held (SparseCore.T d) hostRefs (VD m d W) : sProp 𝕄)
      = iprop(wholes (args m) d (diff ((args m).px d) ((args m).ix d)) (diff ((args m).py d) ((args m).ix d)) (diff ((args m).pz d) ((args m).ix d))
          ∗ held (SparseCore.T d) (hostRefs \ scRefs) W) := by
  have e1 := held_sc m d (VD m d W) _ _ _ ((VD_keeps m d W main_v7 (by decide) (by decide) (by decide)).trans hW.h7)
      ((VD_keeps m d W main_v9 (by decide) (by decide) (by decide)).trans hW.h9) ((VD_keeps m d W main_v11 (by decide) (by decide) (by decide)).trans hW.h11)
      ((VD_keeps m d W main_v4 (by decide) (by decide) (by decide)).trans hW.h4) (VD_x m d W) (VD_y m d W) (VD_z m d W)
  rw [held_sub_split (SparseCore.T d) scRefs_sub (VD m d W), e1, held_congr (SparseCore.T d) (VD_rest m d W)]

/-- A host buffer is among those a call can name. -/
theorem mem_host {r : Ref sig .tc} (h : r.isScoped = false) : (Proc.devRef .tc r : DevRef τ sig) ∈ hostRefs :=
  Finset.mem_filter.mpr ⟨StableHlo.devRef_mem_tcRefs _, fun h' => Bool.false_ne_true (h.symm.trans h')⟩

/-- The buffers of a host operation of no operand are among them, -/
theorem nullary_host {y : Ref sig .tc} (v : y.ty.Contents (Elt F)) (hy) (sy : y.isScoped = false) :
    (StableHlo.nullary (τ := τ) y v hy).bufs ⊆ hostRefs :=
  Finset.singleton_subset_iff.mpr (mem_host sy)

/-- of one operand, -/
theorem unary_host {x y : Ref sig .tc} (f : x.ty.Contents (Elt F) → y.ty.Contents (Elt F)) (hx hy) (sx : x.isScoped = false) (sy : y.isScoped = false) :
    (StableHlo.unary (τ := τ) x y f hx hy).bufs ⊆ hostRefs :=
  Finset.insert_subset (mem_host sx) (Finset.singleton_subset_iff.mpr (mem_host sy))

/-- of two, -/
theorem binary_host {a b y : Ref sig .tc} (f : a.ty.Contents (Elt F) → b.ty.Contents (Elt F) → y.ty.Contents (Elt F)) (ha hb hy)
    (sa : a.isScoped = false) (sb : b.isScoped = false) (sy : y.isScoped = false) :
    (StableHlo.binary (τ := τ) a b y f ha hb hy).bufs ⊆ hostRefs :=
  Finset.insert_subset (mem_host sa) (Finset.insert_subset (mem_host sb) (Finset.singleton_subset_iff.mpr (mem_host sy)))

/-- of a reshape, -/
theorem reshape_host {x y : Ref sig .tc} (he hn hx hy) (sx : x.isScoped = false) (sy : y.isScoped = false) :
    (StableHlo.reshape (τ := τ) (Val := Elt F) x y he hn hx hy).bufs ⊆ hostRefs :=
  Finset.insert_subset (mem_host sx) (Finset.singleton_subset_iff.mpr (mem_host sy))

/-- and of a list of operands. -/
theorem nary_host {n : ℕ} {y : Ref sig .tc} (xs : Fin n → Ref sig .tc) (f : ((k : Fin n) → (xs k).ty.Contents (Elt F)) → y.ty.Contents (Elt F)) (hxs hy)
    (sx : ∀ k, (xs k).isScoped = false) (sy : y.isScoped = false) :
    (StableHlo.nary (τ := τ) xs y f hxs hy).bufs ⊆ hostRefs :=
  Finset.insert_subset (mem_host sy) (Finset.image_subset_iff.mpr fun k _ => mem_host (sx k))

/-- What the host program leaves: the points as they were and the two results. -/
def FIN (d : Dev nD) : sProp 𝕄 :=
  iprop(∃ W : HostVal F, ⌜W (Proc.devRef .tc main_arg0) = m ((SparseCore.T d).loc main_arg0) ∧ W (Proc.devRef .tc main_v23) = edges m d
    ∧ W (Proc.devRef .tc main_v16) = feats m d⌝ ∗ held (SparseCore.T d) hostRefs W)

end Cert.Flot
-- ==== Proof.Near.lean ====
/-
  The TensorCore call's result at an entry, at the ideal instance: for every point of a batch, the places of the points
  found nearest to it.
-/
module

public import proofs.«01_k».proof.Proof.Pick
public import proofs.«01_k».proof.Proof.Host
public import Idealize.ShloMosaic.Lib.Pipeline.ValueKit

@[expose] public section

set_option maxRecDepth 16384

noncomputable section

namespace Cert.Flot

open Cert.KernelIdeal Cert.KernelIdeal.Gen

open Idealize.ShloMosaic
open Idealize.ShloMosaic.Pipeline (afterRegion)

/-! ## The blocks' places -/

/-- Which block of the points a grid point reads. -/
theorem index_0 : ∀ t : Fin cfg0.N, win0_0.index t = ![t.val / 8, 0, 0] := by decide +kernel
/-- Which block of the transposed points a grid point reads. -/
theorem index_1 : ∀ t : Fin cfg0.N, win0_1.index t = ![t.val / 8, 0, t.val % 8] := by decide +kernel
/-- Which block of the result a grid point writes. -/
theorem index_2 : ∀ t : Fin cfg0.N, win0_2.index t = ![t.val / 8, 0, t.val % 8] := by decide +kernel
/-- The batch a grid point names. -/
theorem coords_0 : ∀ t : Fin cfg0.N, (grid0.coords t 0).val = t.val / 8 := by decide +kernel

/-- The batch of a grid point. -/
def batchOf (t : Fin cfg0.N) : Fin 2 := ⟨t.val / 8, by have : t.val < 16 := t.isLt; omega⟩

/-- The point a column of a grid point's blocks is of. -/
def pointOf (t : Fin cfg0.N) (l : Fin 512) : Fin 4096 := ⟨t.val % 8 * 512 + l.val, by have := l.isLt; omega⟩

variable (W : HostVal Ideal)

/-- The first block of a grid point: the batch's points. -/
theorem blk0_apply (t : Fin cfg0.N) (r : Fin 4096) (x : Fin 3) :
    blk0 W t (ix3 0 r x) = (W (Proc.devRef .tc main_arg0) : S2x4096x3.Idx → EReal) (ix3 (batchOf t) r x) := by
  unfold blk0
  blk_ext [index_0 t, batchOf]
  all_goals simp [index_0 t]

/-- The second block of a grid point: the coordinates of its own 512 points. -/
theorem blk1_apply (t : Fin cfg0.N) (x : Fin 3) (l : Fin 512) :
    blk1 W t (ix3 0 x l) = (W (Proc.devRef .tc main_v1) : S2x3x4096.Idx → EReal) (ix3 (batchOf t) x (pointOf t l)) := by
  unfold blk1
  blk_ext [index_1 t, batchOf, pointOf]
  all_goals simp [index_1 t]

variable (m : (ℓ : Loc nD τ sig) → Buf (Elt Ideal) ℓ) (d : Dev nD)

/-- The squared distances of a batch's points to its point `i`, as the program computes them. -/
def dcol (P : S2x4096x3.Idx → EReal) (b : Fin 2) (i : Fin 4096) (r : Fin 4096) : EReal :=
  ∑ x : Fin 3, P (ix3 b r x) * P (ix3 b r x) + ∑ x : Fin 3, P (ix3 b i x) * P (ix3 b i x)
    - Ideal.ofBits FTy.f32 0x40000000#32 * ∑ x : Fin 3, P (ix3 b r x) * P (ix3 b i x)

/-- The call's result: at a batch, a step and a point, the place found, plus the batch's first place. -/
def nearOf (P : S2x4096x3.Idx → EReal) : S2x32x4096.Idx → BitVec 32 := fun j =>
  BitVec.ofNat 32 (found (dcol P (j 0) (j 2)) (j 1).val).val + BitVec.ofNat 32 (j 0).val * 4096#32

/-- When the call starts, the first argument holds the points. -/
theorem VA_arg0 : (VA m d (Proc.devRef .tc main_arg0) : S2x4096x3.Idx → EReal) = pts m d := by
  unfold VA V0 pts
  after_results_simp

/-- When the call starts, the second argument holds the points transposed. -/
theorem VA_v1 : (VA m d (Proc.devRef .tc main_v1) : S2x3x4096.Idx → EReal)
    = transpose S2x3x4096 [0, 2, 1] (pts m d) transposes_S2x4096x3_S2x3x4096_0_2_1 := by
  unfold VA V0 pts
  after_results_simp

/-- The first block of a grid point, from the points. -/
theorem first_apply (t : Fin cfg0.N) (r : Fin 4096) (x : Fin 3) :
    blk0 (VA m d) t (ix3 0 r x) = pts m d (ix3 (batchOf t) r x) :=
  (blk0_apply _ t r x).trans (congrFun (VA_arg0 m d) _)

/-- The second block of a grid point, from the points. -/
theorem second_apply (t : Fin cfg0.N) (x : Fin 3) (l : Fin 512) :
    blk1 (VA m d) t (ix3 0 x l) = pts m d (ix3 (batchOf t) (pointOf t l) x) := by
  refine (blk1_apply _ t x l).trans ((congrFun (VA_v1 m d) _).trans ?_)
  pointwise

/-- The column of distances of a grid point. -/
theorem col_eq (t : Fin cfg0.N) (l : Fin 512) :
    (fun r : Fin 4096 => k0_pay4 (blk0 (VA m d) t) (blk1 (VA m d) t) (k0_pay3 (blk0 (VA m d) t)) (ix2 r l))
      = dcol (pts m d) (batchOf t) (pointOf t l) := by
  funext r
  rw [pay4_apply]
  simp only [first_apply, second_apply]
  rfl

/-- The call's result is the places found. -/
theorem near_eq : near m d = nearOf (pts m d) := by
  unfold near VB
  refine (Pipeline.afterRegion_arr (pdats (VA m) 0 d) (VA m d) (launch0.toP (Val := Elt Ideal)).win.arr_inj 2).trans ?_
  show (dat (VA m d) d).arrAt 2 cfg0.N = _
  refine (dat (VA m d) d).arrAt_eq_of_covers 2 _ (by decide +kernel) fun t hf y => ?_
  idx_vars y
  obtain rfl : y0 = 0 := Subsingleton.elim _ _
  rw [show (((cfg0.win 2).blk t).view.emb (ix3 0 y1 y2) : S2x32x4096.Idx) = ix3 (batchOf t) y1 (pointOf t y2) from by
    blk_ext [index_2 t, batchOf, pointOf]
    all_goals simp [index_2 t]]
  show picked (grid0.coords t) (blk0 (VA m d) t) (blk1 (VA m d) t) (k0_pay3 (blk0 (VA m d) t)) (ix3 0 y1 y2) = _
  rw [picked_apply, col_eq, coords_0 t]
  rfl

end Cert.Flot
-- ==== Proof.Main.lean ====
/-
  The host program on the TensorCore: its lines one after the other, the two calls among them, and the program's run.
-/
module

public import proofs.«01_k».proof.Proof.Host

@[expose] public section

set_option maxRecDepth 16384

noncomputable section

namespace Cert.Flot

open Cert.KernelIdeal Cert.KernelIdeal.Gen

open Idealize.ShloMosaic
open Idealize.ShloMosaic.SparseCore.Cfg (HIx)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (afterRegion)

variable {F : FTy → Type} [FloatOps F]

local notation "𝕄" => MT nD τ sig (HIx 1) (Elt F) ℕ UU ℕ

variable (m : (ℓ : Loc nD τ sig) → Buf (Elt F) ℓ)

/-- What the SparseCore call hands back is the tasks' pieces at the differences. -/
theorem handed_back (d : Dev nD) : (bigSep Finset.univ fun c : Fin ((K (F := F)).nCore 0) => (P (args m)).dn 0 d c)
    = dealt (args m) d (diff ((args m).px d) ((args m).ix d)) (diff ((args m).py d) ((args m).ix d)) (diff ((args m).pz d) ((args m).ix d)) :=
  dealt_after (args m) d

set_option backward.isDefEq.respectTransparency.types false in
/-- The host program runs to its end, from the launch state of the TensorCore. -/
theorem hmain (ρ : Dev nD → PrngReg) [∀ e, Nonempty (Elt F e)] (κ : GSem nD τ sig → ℕ) (d : Dev nD) :
    iprop((K (F := F)).ctx EH (P (args m)) κ ∗ (K (F := F)).tcSt EH d 0 ∗ (K (F := F)).tcRes m ρ d
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) hostRefs (V0 m d) : sProp 𝕄) from Pipeline.unscopedBufs_held d (V0 m d)]
  simp only [main, wp_bind, wp_pure]
  iintro ⟨#Hctx, Hst, ⟨Hb, Hheld, Hts, -⟩, Hg, Ht⟩
  iapply (wp_hlo_within 𝒱 (SparseCore.T d) none Set.univ (S := hostRefs) (unary_host _ _ _ rfl rfl)) $$ [Hb Hheld]
  · isplitl [Hb]; · iexact Hb
    iexact Hheld
  iintro ⟨Hb, Hheld⟩
  rw [wp_ret]; imodintro
  unfold SparseCore.Cfg.tcSt
  icases Hst with ⟨⟨%Wt, %hWt, Ho⟩, Hst⟩
  ihave Hlv := (SparseCore.Cfg.ctx_levAts κ) $$ Hctx
  iapply (wp_topk (VA m) d _)
  isplitl [Hst Hts]; rotate_left
  · isplitl [Hb]; · iexact Hb
    isplitl [Hheld Ho]
    · isplitl [Hheld]; · iexact Hheld
      unfold owing
      iexists Wt; isplitr
      · ipureintro; exact hWt
      iexact Ho
    isplitl [Hlv]; · iexact Hlv
    isplitl [Hg]; · iexact Hg
    iexact Ht
  unfold owing
  iintro ⟨Hb, Hheld, ⟨%Wu, %hWu, Ho⟩⟩
  rw [show afterRegion (pdats (VA m) 0 d) (VA m d) = VB m d from rfl]
  iterate 9
    iapply (wp_hlo_within 𝒱 (SparseCore.T d) none Set.univ (S := hostRefs) (by first | exact unary_host _ _ _ rfl rfl | exact reshape_host _ _ _ _ rfl rfl)) $$ [Hb Hheld]
    · isplitl [Hb]; · iexact Hb
      iexact Hheld
    iintro ⟨Hb, Hheld⟩
    rw [wp_ret]; imodintro
  ihave Hr : iprop(∃ W : HostVal F, ⌜Ready m d W⌝ ∗ held (SparseCore.T d) hostRefs W) $$ [Hheld]
  · iexists _; isplitr; rotate_left
    · iexact Hheld
    · ipureintro
      constructor
      · after_results_simp; exact VB_keeps m d main_arg0 (by decide) (by decide)
      · after_results_simp; rw [VB_keeps m d main_arg0 (by decide) (by decide)]; rfl
      · after_results_simp; rw [VB_keeps m d main_arg0 (by decide) (by decide)]; rfl
      · after_results_simp; rw [VB_keeps m d main_arg0 (by decide) (by decide)]; rfl
      · after_results_simp; rfl
      · after_results_simp; exact VB_keeps m d main_v12_0 (by decide) (by decide)
      · after_results_simp; exact VB_keeps m d main_v12_1 (by decide) (by decide)
      · after_results_simp; exact VB_keeps m d main_v12_2 (by decide) (by decide)
  icases Hr with ⟨%W, %hW, Hheld⟩
  -- the SparseCore call
  ihave Hst : (K (F := F)).tcSt EH d 0 $$ [Ho Hst]
  · unfold SparseCore.Cfg.tcSt
    isplitl [Ho]
    · iexists Wu; isplitr
      · ipureintro; exact hWu
      iexact Ho
    iexact Hst
  ihave Hh := (Entails.of_eq ((held_sub_split (SparseCore.T d) scRefs_sub W).trans
    (congrArg (fun X : sProp 𝕄 => iprop(X ∗ held (SparseCore.T d) (hostRefs \ scRefs) W)) (held_sc m d W _ _ _ hW.h7 hW.h9 hW.h11 hW.h4 hW.hx hW.hy hW.hz)))) $$ Hheld
  icases Hh with ⟨Hw, Hrest⟩
  ihave Hk := (deal (args m) d _ _ _) $$ Hw
  icases Hk with ⟨Hkept, Hdealt⟩
  iapply ((K (F := F)).wp_run (D (F := F)) 𝒱 (EH := EH) (P := P (args m)) κ d 0) $$ [Hst Hkept Hdealt Hb Hrest Hts]
  isplitr; · iexact Hctx
  isplitl [Hst]; · iexact Hst
  isplitl [Hdealt]
  · iapply (Entails.of_eq (dealt_before (args m) d).symm); iexact Hdealt
  iintro ⟨Hst, Hdn⟩
  ihave Hdealt := (Entails.of_eq (handed_back m d)) $$ Hdn
  ihave Hw := (collect (args m) d _ _ _) $$ [Hkept Hdealt]
  · isplitl [Hkept] <;> iassumption
  ihave Hheld : iprop(held (SparseCore.T d) hostRefs (VD m d W)) $$ [Hw Hrest]
  · iapply (Entails.of_eq (held_done m d W hW).symm)
    isplitl [Hw] <;> iassumption
  iterate 3
    iapply (wp_hlo_within 𝒱 (SparseCore.T d) none Set.univ (S := hostRefs) (unary_host _ _ _ rfl rfl)) $$ [Hb Hheld]
    · isplitl [Hb]; · iexact Hb
      iexact Hheld
    iintro ⟨Hb, Hheld⟩
    rw [wp_ret]; imodintro
  iapply (wp_hlo_within 𝒱 (SparseCore.T d) none Set.univ (S := hostRefs) (nary_host _ _ _ _ (by decide) rfl)) $$ [Hb Hheld]
  · isplitl [Hb]; · iexact Hb
    iexact Hheld
  iintro ⟨Hb, Hheld⟩
  rw [wp_ret]; imodintro
  iterate 3
    iapply (wp_hlo_within 𝒱 (SparseCore.T d) none Set.univ (S := hostRefs) (nullary_host _ _ rfl)) $$ [Hb Hheld]
    · isplitl [Hb]; · iexact Hb
      iexact Hheld
    iintro ⟨Hb, Hheld⟩
    rw [wp_ret]; imodintro
  iterate 2
    iapply (wp_hlo_within 𝒱 (SparseCore.T d) none Set.univ (S := hostRefs) (binary_host _ _ _ _ rfl rfl rfl)) $$ [Hb Hheld]
    · isplitl [Hb]; · iexact Hb
      iexact Hheld
    iintro ⟨Hb, Hheld⟩
    rw [wp_ret]; imodintro
  iapply (wp_hlo_within 𝒱 (SparseCore.T d) none Set.univ (S := hostRefs) (unary_host _ _ _ rfl rfl)) $$ [Hb Hheld]
  · isplitl [Hb]; · iexact Hb
    iexact Hheld
  iintro ⟨Hb, Hheld⟩
  rw [wp_ret]; imodintro
  iapply (wp_hlo_within 𝒱 (SparseCore.T d) none Set.univ (S := hostRefs) (nullary_host _ _ rfl)) $$ [Hb Hheld]
  · isplitl [Hb]; · iexact Hb
    iexact Hheld
  iintro ⟨Hb, Hheld⟩
  rw [wp_ret]; imodintro
  iapply (wp_hlo_within 𝒱 (SparseCore.T d) none Set.univ (S := hostRefs) (binary_host _ _ _ _ rfl rfl rfl)) $$ [Hb Hheld]
  · isplitl [Hb]; · iexact Hb
    iexact Hheld
  iintro ⟨Hb, Hheld⟩
  rw [wp_ret]; imodintro
  iapply (wp_hlo_within 𝒱 (SparseCore.T d) none Set.univ (S := hostRefs) (unary_host _ _ _ rfl rfl)) $$ [Hb Hheld]
  · isplitl [Hb]; · iexact Hb
    iexact Hheld
  iintro ⟨Hb, Hheld⟩
  rw [wp_ret]; imodintro
  iapply (wp_hlo_within 𝒱 (SparseCore.T d) none Set.univ (S := hostRefs) (binary_host _ _ _ _ rfl rfl rfl)) $$ [Hb Hheld]
  · isplitl [Hb]; · iexact Hb
    iexact Hheld
  iintro ⟨Hb, Hheld⟩
  rw [wp_ret]; imodintro
  imodintro
  isplitl [Hst]
  · unfold SparseCore.Cfg.tcSt; iexact Hst
  isplitr [Hb Hts]
  · unfold FIN
    iexists _; isplitr; rotate_left
    · iexact Hheld
    · ipureintro
      refine ⟨?_, ?_, ?_⟩
      · after_results_simp; exact (VD_keeps m d W main_arg0 (by decide) (by decide) (by decide)).trans hW.a
      · after_results_simp; rw [VD_keeps m d W main_v4 (by decide) (by decide) (by decide), hW.h4]; rfl
      · after_results_simp
        unfold feats
        rw [← VD_x m d W, ← VD_y m d W, ← VD_z m d W]
        rfl
  isplitl [Hb] <;> iassumption

/-! ## The launch -/

/-- The launch element: the handshakes' rounds and the pipeline's. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What each TensorCore is launched with for its pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

/-- Nothing, many times over. -/
theorem bigSep_nothing {I : Type} (s : Finset I) : (bigSep s fun _ => iprop(emp)) = (iprop(emp) : sProp 𝕄) := bigSep_emp_const s

/-- The launch element makes the handshakes' state and every TensorCore's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (args m)).x q thr) := by
  unfold u₀
  iintro Hu
  ihave H := (ownU_pair _ _) $$ Hu
  icases H with ⟨HH, Hp⟩
  ihave Hp := (own_pair_emb embR _ _) $$ Hp
  icases Hp with ⟨Hp, -⟩
  ihave Hp := (Pipeline.fund_ghost (Pipeline.pin (pcfgs (F := F)) adm) (EP (F := F)) cellOf_inj) $$ Hp
  imod Hp with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1) (Φ := fun p => Pipeline.cellsGhost (Pipeline.pin (pcfgs (F := F)) adm) EP p d))); iexact Hg
    · iapply (Entails.of_eq (bigSep_congr fun d _ => bigSep_univ_of_subsingleton (0 : Fin 1) (Φ := fun p => Pipeline.toksInit (Pipeline.pin (pcfgs (F := F)) adm) EP p d))); iexact Ht
  unfold P; dsimp only
  rw [bigSep_nothing, bigSep_nothing]
  iempintro

/-- What the run leaves in the memory. -/
def fq (d : Dev nD) (s : Phys nD τ sig (Elt F)) : Prop :=
  s.mem.mem ((SparseCore.T d).loc main_arg0) = m ((SparseCore.T d).loc main_arg0) ∧ s.mem.mem ((SparseCore.T d).loc main_v23) = edges m d
    ∧ s.mem.mem ((SparseCore.T d).loc main_v16) = feats m d

/-- A held buffer is read off the memory. -/
theorem held_read (d : Dev nD) (W : HostVal F) (r : Ref sig .tc) (hr : r.isScoped = false) (s : Phys nD τ sig (Elt F)) :
    iprop(held (SparseCore.T d) hostRefs W ∗ SI s) ⊢ (⌜s.mem.mem ((SparseCore.T d).loc r) = W (Proc.devRef .tc r)⌝ : sProp 𝕄) := by
  rw [held_sub_split (SparseCore.T d) (Finset.singleton_subset_iff.mpr (mem_host hr)) W]
  unfold held
  rw [bigSep_singleton]
  iintro ⟨⟨Hx, -⟩, HSI⟩
  ihave H := (SI_pointsTo_agree (st := s) (ℓ := (SparseCore.T d).loc r) (I := Finset.univ) (q := fullShare) (f := W (Proc.devRef .tc r))) $$ [HSI Hx]
  · isplitl [HSI] <;> iassumption
  icases H with %hx
  ipureintro; exact funext fun i => hx i (Finset.mem_univ i)

/-- The final state's contents, read off the memory. -/
theorem hfin (d : Dev nD) (s : Phys nD τ sig (Elt F)) : iprop(FIN m d ∗ SI s) ⊢ (⌜fq m d s⌝ : sProp 𝕄) := by
  unfold FIN
  have key : ∀ W : HostVal F, iprop(held (SparseCore.T d) hostRefs W ∗ SI s)
      ⊢ (⌜s.mem.mem ((SparseCore.T d).loc main_arg0) = W (Proc.devRef .tc main_arg0) ∧ s.mem.mem ((SparseCore.T d).loc main_v23) = W (Proc.devRef .tc main_v23)
        ∧ s.mem.mem ((SparseCore.T d).loc main_v16) = W (Proc.devRef .tc main_v16)⌝ : sProp 𝕄) := fun W =>
    (BIClass.and_intro (held_read d W main_arg0 rfl s) ((BIClass.and_intro (held_read d W main_v23 rfl s) (held_read d W main_v16 rfl s)).trans pure_and.1)).trans pure_and.1
  iintro ⟨⟨%W, %hW, H⟩, HSI⟩
  ihave Hp := (key W) $$ [H HSI]
  · isplitl [H] <;> iassumption
  icases Hp with %h
  ipureintro
  exact ⟨h.1.trans hW.1, h.2.1.trans hW.2.1, h.2.2.trans hW.2.2⟩

/-- The program's run: the points end as they were, the two results at `edges` and `feats`, every semaphore at zero. -/
theorem run (ρ : Dev nD → PrngReg) [∀ e, Nonempty (Elt F e)] (hix : ∀ d e, ((args m).ix d e).toNat < 8192) :
    θ_run (Cert.KernelIdeal.defs (F := F)) (Cert.KernelIdeal.threads (F := F)) ⟨m, fun _ => 0, ρ⟩
      (fun r => (∀ d : Dev nD, r.2.mem ((SparseCore.T d).loc main_arg0) = m ((SparseCore.T d).loc main_arg0) ∧ r.2.mem ((SparseCore.T d).loc main_v23) = edges m d
        ∧ r.2.mem ((SparseCore.T d).loc main_v16) = feats m d) ∧ r.2.sem = fun _ => 0) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) hix)
    (fun q _ => match q with | 0 => SparseCore.Cfg.VecSplit.of_plain (vecSplit (args m)))
    m ρ main (fun d => G d) (FIN m) (u₀ (F := F)) (sep_elim_left.trans (hu₀ m)) (hmain m ρ) (fq m) (hfin m) _ (fun _ h hz => ⟨h, hz⟩)

end Cert.Flot
-- ==== Proof.Range.lean ====
/-
  Every index the TensorCore call hands on is one of a point of its device.
-/
module

public import proofs.«01_k».proof.Proof.Near
public import proofs.«01_k».proof.Proof.Main

@[expose] public section

set_option maxRecDepth 16384

noncomputable section

namespace Cert.Flot

open Cert.KernelIdeal Cert.KernelIdeal.Gen

open Idealize.ShloMosaic

variable (m : (ℓ : Loc nD τ sig) → Buf (Elt Ideal) ℓ) (d : Dev nD)

/-- The batch of an edge. -/
def eb (e : Fin 262144) : Fin 2 := ⟨e.val / 131072, by have := e.isLt; omega⟩
/-- The point of an edge. -/
def en (e : Fin 262144) : Fin 4096 := ⟨e.val / 32 % 4096, Nat.mod_lt _ (by norm_num)⟩
/-- The step of an edge. -/
def ek (e : Fin 262144) : Fin 32 := ⟨e.val % 32, Nat.mod_lt _ (by norm_num)⟩

/-- The list of neighbours at an edge. -/
theorem ix_apply (e : Fin 262144) : (args m).ix d (ix1 e) = nearOf (pts m d) (ix3 (eb e) (ek e) (en e)) := by
  unfold args
  show shapeCast _ (transpose _ _ (near m d) _) _ _ = _
  rw [near_eq]
  generalize nearOf (pts m d) = g
  pointwise [eb, ek, en]

/-- A place found, plus its batch's first place, as a number. -/
theorem nearOf_toNat (P : S2x4096x3.Idx → EReal) (b : Fin 2) (k : Fin 32) (n : Fin 4096) :
    (nearOf P (ix3 b k n)).toNat = (found (dcol P b n) k.val).val + b.val * 4096 := by
  show (BitVec.ofNat 32 (found (dcol P b n) k.val).val + BitVec.ofNat 32 b.val * 4096#32).toNat = _
  have h := (found (dcol P b n) k.val).isLt
  have hb := b.isLt
  simp only [BitVec.toNat_add, BitVec.toNat_mul, BitVec.toNat_ofNat]
  omega

/-- An edge's neighbour, as a number. -/
theorem ix_toNat (e : Fin 262144) :
    ((args m).ix d (ix1 e)).toNat = (found (dcol (pts m d) (eb e) (en e)) (ek e).val).val + (eb e).val * 4096 := by
  rw [ix_apply, nearOf_toNat]

/-- Every index is one of a point of the device. -/
theorem ix_lt (e : S262144.Idx) : ((args m).ix d e).toNat < 8192 := by
  idx_vars e
  rw [ix_toNat]
  have h := (found (dcol (pts m d) (eb e0) (en e0)) (ek e0).val).isLt
  have hb := (eb e0).isLt
  omega

end Cert.Flot
-- ==== Proof.Ref.lean ====
/-
  The reference's results at an index, at the ideal instance: its neighbours are the places found one after another in a
  row of its distance matrix.
-/
module

public import proofs.«01_k».proof.Proof.Gen.ReferenceIdeal
public import proofs.«01_k».proof.Proof.Gen.ReferenceIdeal.Run
public import proofs.«01_k».proof.Proof.Search
public import Idealize.ShloMosaic.Lib.Pointwise
public import Idealize.ShloMosaic.Lib.WordCmp

@[expose] public section

set_option maxRecDepth 16384

noncomputable section

namespace Cert.Flot.Ref

open Cert.ReferenceIdeal Cert.ReferenceIdeal.Gen

open Idealize.ShloMosaic

/-! ## The comparator -/

/-- At the ideal instance the sort's comparator asks whether the one value is below the other. -/
theorem before_iff (a b : EReal) (x y : BitVec 32) :
    (comparator_f32_i32_d2 (F := Ideal) (a, x) (b, y) == 1#1) = decide (a < b) := by
  have z : ∀ c : EReal, Scalar.select (FloatOps.cmpf (F := Ideal) (φ := .f32) .oeq c (FloatOps.ofBits .f32 0x00000000#32)) (FloatOps.ofBits .f32 0x00000000#32 : Ideal .f32) c = c := by
    intro c
    show Scalar.select (BitVec.ofBool (decide (c = Ideal.ofBits .f32 0x00000000#32))) (Ideal.ofBits .f32 0x00000000#32) c = c
    by_cases h : c = Ideal.ofBits .f32 0x00000000#32
    · rw [← h]; simp [Scalar.select]
    · rw [decide_eq_false h]; rfl
  have w : ∀ c v : EReal, Scalar.select (FloatOps.cmpf (F := Ideal) (φ := .f32) .une c c) (FloatOps.ofBits .f32 0x7FC00000#32 : Ideal .f32) v = v := by
    intro c v
    show Scalar.select (BitVec.ofBool (decide (c ≠ c))) _ v = v
    simp [Scalar.select]
  show (FloatOps.cmpfTotal (F := Ideal) (φ := .f32) .lt (Scalar.select _ _ (Scalar.select _ _ a)) (Scalar.select _ _ (Scalar.select _ _ b)) == 1#1) = _
  rw [w, w, z, z]
  show (BitVec.ofBool (decide (a < b)) == 1#1) = decide (a < b)
  by_cases h : a < b <;> simp [h]

/-! ## The neighbours -/

variable (Q : S4x4096x3.Idx → EReal)

/-- A row of the distance matrix: the squared distances of point `i` of cloud `b` to the cloud's points. -/
def rrow (b : Fin 4) (i r : Fin 4096) : EReal :=
  ∑ x : Fin 3, Q (ix3 b i x) * Q (ix3 b i x) + ∑ x : Fin 3, Q (ix3 b r x) * Q (ix3 b r x)
    - Ideal.ofBits FTy.f32 0x40000000#32 * ∑ x : Fin 3, Q (ix3 b i x) * Q (ix3 b r x)

/-- The distance matrix, as the reference computes it. -/
def dist : Vec Ideal S4x4096x4096 .f32 :=
  subf (addf (broadcastInDim S4x4096x4096 ![0, 1, 2] bcast_S4x4096x1_S4x4096x4096_0_1_2 (broadcastInDim S4x4096x1 ![0, 1] bcast_S4x4096_S4x4096x1_0_1 (Host.reduceAdd (F := Ideal) (φ := .f32) (mulf Q Q) (constant S_ .f32 0x00000000#32) reducesTo_S4x4096x3_S4x4096_d2 h_S_)))
    (broadcastInDim S4x4096x4096 ![0, 1, 2] bcast_S4x1x4096_S4x4096x4096_0_1_2 (transpose S4x1x4096 [0, 2, 1] (broadcastInDim S4x4096x1 ![0, 1] bcast_S4x4096_S4x4096x1_0_1 (Host.reduceAdd (F := Ideal) (φ := .f32) (mulf Q Q) (constant S_ .f32 0x00000000#32) reducesTo_S4x4096x3_S4x4096_d2 h_S_)) transposes_S4x4096x1_S4x1x4096_0_2_1)))
    (mulf (broadcastInDim S4x4096x4096 ![] bcast_S_S4x4096x4096 (constant S_ .f32 0x40000000#32)) (Host.dotGeneral (F := Ideal) (φ₁ := .f32) (φ₂ := .f32) dot_S4x4096x3_S4x4096x3_S4x4096x4096_2_2_1_1_0_0 none Q Q))

/-- The distance matrix at an entry. -/
theorem dist_apply (b : Fin 4) (i r : Fin 4096) : dist Q (ix3 b i r) = rrow Q b i r := by
  unfold rrow
  pointwise [dist]

/-- The sorted rows' first 32 places, cloud by cloud. -/
def nbrs : IVec S4x131072 32 :=
  shapeCast _ (extractStridedSlice S4x4096x32 ![0, 0, 0] ((Host.sort2 S4x4096x4096 2 (comparator_f32_i32_d2 (F := Ideal)) (dist Q) (iotaInDim S4x4096x4096 32 2)).2) slices_S4x4096x4096_S4x4096x32_0_0_0) shapeCasts_S4x4096x32_S4x131072

/-- A row's index with its last coordinate replaced. -/
theorem along_last (b : Fin 4) (i k c : Fin 4096) (h : 2 < S4x4096x4096.rank) :
    (ix3 b i k : S4x4096x4096.Idx).along ⟨2, h⟩ c = ix3 b i c := by
  funext a
  match a with
  | ⟨0, _⟩ => rfl
  | ⟨1, _⟩ => rfl
  | ⟨2, _⟩ => rfl

/-- The second array of a sort of two, at an index. -/
theorem sort2_second {s : Shape} {d : ℕ} {α β : Type} (cmp : α × β → α × β → BitVec 1) (x : s.Idx → α) (y : s.Idx → β) (h : d < s.rank) (j : s.Idx) :
    (Host.sort2 s d cmp x y).2 j = y (j.along ⟨d, h⟩ (sortedFrom
      (fun k k' => cmp (x (j.along ⟨d, h⟩ k), y (j.along ⟨d, h⟩ k)) (x (j.along ⟨d, h⟩ k'), y (j.along ⟨d, h⟩ k')) == 1#1) (j ⟨d, h⟩))) := by
  unfold Host.sort2
  rw [dif_pos h]

/-- The sorted places at an entry. -/
theorem sorted_apply (b : Fin 4) (i k : Fin 4096) :
    (Host.sort2 S4x4096x4096 2 (comparator_f32_i32_d2 (F := Ideal)) (dist Q) (iotaInDim S4x4096x4096 32 2)).2 (ix3 b i k)
      = BitVec.ofNat 32 (sortedFrom (earlier (rrow Q b i)) k).val := by
  have h2 : 2 < S4x4096x4096.rank := by decide
  have h := sorted_value (rrow Q b i) (fun c c' => comparator_f32_i32_d2 (F := Ideal)
      (dist Q ((ix3 b i k : S4x4096x4096.Idx).along ⟨2, h2⟩ c), iotaInDim S4x4096x4096 32 2 ((ix3 b i k : S4x4096x4096.Idx).along ⟨2, h2⟩ c))
      (dist Q ((ix3 b i k : S4x4096x4096.Idx).along ⟨2, h2⟩ c'), iotaInDim S4x4096x4096 32 2 ((ix3 b i k : S4x4096x4096.Idx).along ⟨2, h2⟩ c')) == 1#1)
    (fun c c' => by rw [before_iff, along_last, along_last, dist_apply, dist_apply]) k
  have hi : ∀ c : Fin 4096, iotaInDim S4x4096x4096 32 2 ((ix3 b i k : S4x4096x4096.Idx).along ⟨2, h2⟩ c) = BitVec.ofNat 32 c.val := fun c => by
    rw [along_last]
    pointwise
  rw [← h, ← hi]
  exact sort2_second _ _ _ h2 (ix3 b i k)

/-- A neighbour: the place found at its step in the point's row, where the row is below infinity. -/
theorem nbrs_apply (hf : ∀ b i r, rrow Q b i r < ⊤) (b : Fin 4) (i : Fin 4096) (k : Fin 32) :
    nbrs Q (ix2 b ⟨i.val * 32 + k.val, by have := i.isLt; have := k.isLt; omega⟩) = BitVec.ofNat 32 (found (rrow Q b i) k.val).val := by
  have h := sorted_apply Q b i ⟨k.val, by have := k.isLt; omega⟩
  rw [show (⟨k.val, by have := k.isLt; omega⟩ : Fin 4096) = k.castLE (by norm_num) from rfl,
    sorted_found (rrow Q b i) (hf b i) 32 (by norm_num) k] at h
  rw [← h]
  unfold nbrs
  generalize (Host.sort2 S4x4096x4096 2 (comparator_f32_i32_d2 (F := Ideal)) (dist Q) (iotaInDim S4x4096x4096 32 2)).2 = g
  pointwise
  rfl

/-- The first result, as the reference computes it from its neighbours. -/
def edgesOf (N : IVec S4x131072 32) : IVec S524288 32 :=
  shapeCast _ (addi N (broadcastInDim S4x131072 ![0, 1] bcast_S4x1_S4x131072_0_1 (broadcastInDim S4x1 ![0] bcast_S4_S4x1_0 (muli (iotaInDim S4 32 0) (broadcastInDim S4 ![] bcast_S_S4 (constantI S_ 32 4096#32)))))) shapeCasts_S4x131072_S524288

/-- The first result at an edge: the neighbour's place, plus its cloud's first place. -/
theorem edgesOf_apply (N : IVec S4x131072 32) (e : Fin 524288) :
    edgesOf N (ix1 e) = N (ix2 ⟨e.val / 131072, by have := e.isLt; omega⟩ ⟨e.val % 131072, Nat.mod_lt _ (by norm_num)⟩)
      + BitVec.ofNat 32 (e.val / 131072) * 4096#32 := by
  pointwise [edgesOf]
  rfl

/-- How the reference gathers points. -/
abbrev GD := gather_S4x4096x3_S131072x2_S131072x3_1_01_n_n_01_1_113

/-- Where the index list of an edge's place is read: its cloud's number and its place's number. -/
theorem list_at (e : Fin 131072) (x : Fin 3) (k : Fin 2) (h : k.val < GD.startIndexMap.length) :
    GD.siIdx (ix2 e x) ⟨k.val, h⟩ = ix2 e k := by
  funext b
  refine Fin.ext ?_
  match b with
  | ⟨0, _⟩ => rfl
  | ⟨1, _⟩ => rfl

/-- A gather of points by cloud and place, where both are in range. -/
theorem gather_apply (idx : IVec S131072x2 32) (e : Fin 131072) (x : Fin 3) (b : Fin 4) (r : Fin 4096)
    (hb : idx (ix2 e 0) = BitVec.ofNat 32 b.val) (hr : idx (ix2 e 1) = BitVec.ofNat 32 r.val) :
    Host.gather GD Q idx (ix2 e x) = Q (ix3 b r x) := by
  have hb' := b.isLt
  have hr' := r.isLt
  have nb : (BitVec.ofNat 32 b.val).toInt.toNat = b.val := by
    rw [BitVec.toInt_eq_toNat_of_lt (by simp only [BitVec.toNat_ofNat]; omega)]; simp only [BitVec.toNat_ofNat]; omega
  have nr : (BitVec.ofNat 32 r.val).toInt.toNat = r.val := by
    rw [BitVec.toInt_eq_toNat_of_lt (by simp only [BitVec.toNat_ofNat]; omega)]; simp only [BitVec.toNat_ofNat]; omega
  unfold Host.gather
  congr 1
  funext a
  refine Fin.ext ?_
  show GD.start (ix2 e x) idx a + GD.batchCoord (ix2 e x) a + GD.offCoord (ix2 e x) a = _
  rw [GatherDims.batchCoord_eq_zero _ _ _ List.not_mem_nil]
  match a with
  | ⟨0, h0⟩ =>
    rw [GatherDims.offCoord_eq_zero _ _ _ (fun h => ((GatherDims.mem_sKept _ _).mp h).1 (by decide +revert))]
    unfold GatherDims.start
    rw [dif_pos (show (⟨0, h0⟩ : Fin 3) ∈ GD.startIndexMap by decide +revert)]
    have q : idx (GD.siIdx (ix2 e x) ⟨0, by decide⟩) = BitVec.ofNat 32 b.val := (congrArg idx (list_at e x 0 (by decide))).trans hb
    show min (idx (GD.siIdx (ix2 e x) ⟨0, _⟩)).toInt.toNat 3 + 0 + 0 = b.val
    rw [q, nb]
    omega
  | ⟨1, h1⟩ =>
    rw [GatherDims.offCoord_eq_zero _ _ _ (fun h => ((GatherDims.mem_sKept _ _).mp h).1 (by decide +revert))]
    unfold GatherDims.start
    rw [dif_pos (show (⟨1, h1⟩ : Fin 3) ∈ GD.startIndexMap by decide +revert)]
    have q : idx (GD.siIdx (ix2 e x) ⟨1, by decide⟩) = BitVec.ofNat 32 r.val := (congrArg idx (list_at e x 1 (by decide))).trans hr
    show min (idx (GD.siIdx (ix2 e x) ⟨1, _⟩)).toInt.toNat 4095 + 0 + 0 = r.val
    rw [q, nr]
    omega
  | ⟨2, h2⟩ =>
    unfold GatherDims.start
    rw [dif_neg (show (⟨2, h2⟩ : Fin 3) ∉ GD.startIndexMap by decide +revert)]
    show 0 + 0 + x.val = x.val
    omega

/-- The points of cloud `b` that a list of places names. -/
def rows (b : BitVec 32) (p : IVec S131072 32) : Vec Ideal S131072x3 .f32 :=
  Host.gather gather_S4x4096x3_S131072x2_S131072x3_1_01_n_n_01_1_113 Q (concatenate S131072x2 1 [⟨S131072x1, (broadcastInDim S131072x1 ![0] bcast_S131072_S131072x1_0 (id (broadcastInDim S131072 ![] bcast_S_S131072 (constantI S_ 32 b))))⟩,
    ⟨S131072x1, (broadcastInDim S131072x1 ![0] bcast_S131072_S131072x1_0 (select (cmpi .slt p (broadcastInDim S131072 ![] bcast_S_S131072 (constantI S_ 32 0#32))) (addi p (broadcastInDim S131072 ![] bcast_S_S131072 (constantI S_ 32 4096#32))) p))⟩] concatenates_S131072x1_S131072x1_S131072x2_d1)

/-- Such a point's coordinate. -/
theorem rows_apply (b : Fin 4) (p : IVec S131072 32) (e : Fin 131072) (x : Fin 3) (r : Fin 4096) (hr : p (ix1 e) = BitVec.ofNat 32 r.val) :
    rows Q (BitVec.ofNat 32 b.val) p (ix2 e x) = Q (ix3 b r x) := by
  unfold rows
  refine gather_apply Q _ e x b r ?_ ?_
  · pointwise
    rfl
  · pointwise
    rw [hr]
    show Scalar.select (IntOp.cmpi CmpIPredicate.slt (BitVec.ofNat 32 r.val) (BitVec.ofNat 32 0)) _ _ = _
    rw [Idealize.ShloMosaic.WordCmp.cmpi_slt_ofNat (by have := r.isLt; omega) (by norm_num)]
    rfl

/-- The places of an edge's origin, edge by edge. -/
def origins : IVec S131072 32 := shapeCast _ (broadcastInDim S4096x32 ![0] bcast_S4096_S4096x32_0 (iotaInDim S4096 32 0)) shapeCasts_S4096x32_S131072

/-- An edge's origin. -/
theorem origins_apply (e : Fin 131072) : origins (ix1 e) = BitVec.ofNat 32 (e.val / 32) := by
  pointwise [origins]

/-- One cloud's differences. -/
def piece (b : BitVec 32) (N : IVec S131072 32) : FVec Ideal S131072x3 .f32 := subf (rows Q b N : FVec Ideal S131072x3 .f32) (rows Q b origins)

/-- A cloud's neighbours. -/
def cloud0 (N : IVec S4x131072 32) : IVec S131072 32 := shapeCast _ (extractStridedSlice S1x131072 ![0, 0] N slices_S4x131072_S1x131072_0_0) shapeCasts_S1x131072_S131072
/-- The second cloud's neighbours. -/
def cloud1 (N : IVec S4x131072 32) : IVec S131072 32 := shapeCast _ (extractStridedSlice S1x131072 ![1, 0] N slices_S4x131072_S1x131072_1_0) shapeCasts_S1x131072_S131072
/-- The third cloud's neighbours. -/
def cloud2 (N : IVec S4x131072 32) : IVec S131072 32 := shapeCast _ (extractStridedSlice S1x131072 ![2, 0] N slices_S4x131072_S1x131072_2_0) shapeCasts_S1x131072_S131072
/-- The fourth cloud's neighbours. -/
def cloud3 (N : IVec S4x131072 32) : IVec S131072 32 := shapeCast _ (extractStridedSlice S1x131072 ![3, 0] N slices_S4x131072_S1x131072_3_0) shapeCasts_S1x131072_S131072

/-- The second result, as the reference computes it from its neighbours. -/
def featsOf (N : IVec S4x131072 32) : Vec Ideal S524288x3 .f32 :=
  concatenate S524288x3 0 [⟨S131072x3, piece Q 0#32 (cloud0 N)⟩, ⟨S131072x3, piece Q 1#32 (cloud1 N)⟩, ⟨S131072x3, piece Q 2#32 (cloud2 N)⟩,
    ⟨S131072x3, piece Q 3#32 (cloud3 N)⟩] concatenates_S131072x3_S131072x3_S131072x3_S131072x3_S524288x3_d0

/-- Each cloud's neighbours are its row of the list. -/
theorem clouds_apply (N : IVec S4x131072 32) (e : Fin 131072) :
    cloud0 N (ix1 e) = N (ix2 0 e) ∧ cloud1 N (ix1 e) = N (ix2 1 e) ∧ cloud2 N (ix1 e) = N (ix2 2 e) ∧ cloud3 N (ix1 e) = N (ix2 3 e) := by
  refine ⟨?_, ?_, ?_, ?_⟩
  · pointwise [cloud0]
  · pointwise [cloud1]
  · pointwise [cloud2]
  · pointwise [cloud3]

/-- A difference in a cloud: the neighbour's coordinate less the origin's. -/
theorem piece_apply (b : Fin 4) (N : IVec S131072 32) (e : Fin 131072) (x : Fin 3) (r : Fin 4096) (hr : N (ix1 e) = BitVec.ofNat 32 r.val) :
    piece Q (BitVec.ofNat 32 b.val) N (ix2 e x) = Q (ix3 b r x) - Q (ix3 b ⟨e.val / 32, by have := e.isLt; omega⟩ x) := by
  show rows Q _ N (ix2 e x) - rows Q _ origins (ix2 e x) = _
  rw [rows_apply Q b N e x r hr, rows_apply Q b origins e x ⟨e.val / 32, by have := e.isLt; omega⟩ (origins_apply e)]

/-- The second result at an edge, where its neighbour is known. -/
theorem featsOf_apply (N : IVec S4x131072 32) (b : Fin 4) (e' : Fin 131072) (e : Fin 524288) (he : e.val = b.val * 131072 + e'.val) (x : Fin 3) (r : Fin 4096)
    (hr : N (ix2 b e') = BitVec.ofNat 32 r.val) :
    featsOf Q N (ix2 e x) = Q (ix3 b r x) - Q (ix3 b ⟨e'.val / 32, by have := e'.isLt; omega⟩ x) := by
  have hlt := e'.isLt
  have hb := b.isLt
  obtain ⟨c0, c1, c2, c3⟩ := clouds_apply N e'
  pointwise [featsOf]
  have hc : b = 0 ∨ b = 1 ∨ b = 2 ∨ b = 3 := by
    have : b.val = 0 ∨ b.val = 1 ∨ b.val = 2 ∨ b.val = 3 := by omega
    rcases this with h | h | h | h
    · exact .inl (Fin.ext h)
    · exact .inr (.inl (Fin.ext h))
    · exact .inr (.inr (.inl (Fin.ext h)))
    · exact .inr (.inr (.inr (Fin.ext h)))
  rcases hc with rfl | rfl | rfl | rfl
  · have he : e.val = 0 + e'.val := he
    have eq : ∀ h, (⟨e.val, h⟩ : Fin 131072) = e' := fun h => Fin.ext (by show e.val = e'.val; omega)
    have := piece_apply Q 0 (cloud0 N) e' x r (c0.trans hr)
    rw [dif_pos (by omega), eq]
    exact this
  · have he : e.val = 131072 + e'.val := he
    have eq : ∀ h, (⟨e.val - 131072, h⟩ : Fin 131072) = e' := fun h => Fin.ext (by show e.val - 131072 = e'.val; omega)
    have := piece_apply Q 1 (cloud1 N) e' x r (c1.trans hr)
    rw [dif_neg (by omega), dif_pos (by omega), eq]
    exact this
  · have he : e.val = 262144 + e'.val := he
    have eq : ∀ h, (⟨e.val - 131072 - 131072, h⟩ : Fin 131072) = e' := fun h => Fin.ext (by show e.val - 131072 - 131072 = e'.val; omega)
    have := piece_apply Q 2 (cloud2 N) e' x r (c2.trans hr)
    rw [dif_neg (by omega), dif_neg (by omega), dif_pos (by omega), eq]
    exact this
  · have he : e.val = 393216 + e'.val := he
    have eq : ∀ h, (⟨e.val - 131072 - 131072 - 131072, h⟩ : Fin 131072) = e' := fun h => Fin.ext (by show e.val - 131072 - 131072 - 131072 = e'.val; omega)
    have := piece_apply Q 3 (cloud3 N) e' x r (c3.trans hr)
    rw [dif_neg (by omega), dif_neg (by omega), dif_neg (by omega), eq]
    exact this

end Cert.Flot.Ref
-- ==== Proof.Link.lean ====
/-
  The two programs' results, edge by edge: both name the same point for every edge, and subtract the same coordinates.
-/
module

public import proofs.«01_k».proof.Proof.Range
public import proofs.«01_k».proof.Proof.Ref
public import proofs.«01_k».proof.Proof.Gen.Pre_finite_KernelIdeal
public import Idealize.ShloMosaic.Lib.ReduceAll
public import Idealize.ShloMosaic.Lib.LayoutAt

@[expose] public section

set_option maxRecDepth 16384

noncomputable section

namespace Cert.Flot

open Cert.KernelIdeal Cert.KernelIdeal.Gen

open Idealize.ShloMosaic

/-- A device whose points pass the check holds numbers only. -/
theorem number_of_check (P : S2x4096x3.Idx → EReal) (h : Cert.Pre_finite_KernelIdeal.fn (F := Ideal) P = fun _ => 1#1) (b : Fin 2) (r : Fin 4096) (x : Fin 3) :
    ∃ q : ℝ, P (ix3 b r x) = (q : EReal) := by
  haveI : Subsingleton Cert.Pre_finite_KernelIdeal.S_.Idx := ⟨fun a b => funext fun i => i.elim0⟩
  have e := Host.reduce_andi_all _ _ _ _ (fun i => i.elim0) (congrFun h (fun i => i.elim0)) (ix3 b r x)
  have e' : Ideal.cmp .olt (max (P (ix3 b r x)) (-P (ix3 b r x))) (Ideal.ofBits FTy.f32 0x7F800000#32) = 1#1 := e
  rw [top_word] at e'
  generalize P (ix3 b r x) = q at e'
  induction q with
  | bot => simp [Ideal.cmp] at e'
  | coe q => exact ⟨q, rfl⟩
  | top => simp [Ideal.cmp] at e'

/-- The word of two is two. -/
theorem two_word : Ideal.ofBits FTy.f32 0x40000000#32 = ((2 : ℝ) : EReal) := by
  simp [Ideal.ofBits, Ideal.ieee]
  rw [← EReal.coe_mul]
  norm_num

/-- Between numbers every distance is a number. -/
theorem rrow_lt (Q : Cert.ReferenceIdeal.S4x4096x3.Idx → EReal) (hQ : ∀ b r x, ∃ q : ℝ, Q (ix3 b r x) = (q : EReal)) (b : Fin 4) (i r : Fin 4096) :
    Ref.rrow Q b i r < ⊤ := by
  choose q hq using hQ
  unfold Ref.rrow
  simp only [hq, two_word, Fin.sum_univ_three]
  norm_cast
  exact EReal.coe_lt_top _

variable (m : (ℓ : Loc nD τ sig) → Buf (Elt Ideal) ℓ) (d : Dev nD)

/-- The cloud, among all, of a device's cloud. -/
def cloudOf (b : Fin 2) : Fin 4 := ⟨d.val * 2 + b.val, by have := d.isLt; have := b.isLt; change d.val < 2 at *; omega⟩

section

variable (Q : Cert.ReferenceIdeal.S4x4096x3.Idx → EReal) (hP : ∀ b r x, pts m d (ix3 b r x) = Q (ix3 (cloudOf d b) r x))

include hP in
/-- A device's distances are the reference's. -/
theorem dcol_eq (b : Fin 2) (i : Fin 4096) : dcol (pts m d) b i = Ref.rrow Q (cloudOf d b) i := by
  funext r
  unfold dcol Ref.rrow
  simp only [hP]
  rw [add_comm (∑ x : Fin 3, Q (ix3 (cloudOf d b) r x) * Q (ix3 (cloudOf d b) r x))]
  simp only [mul_comm (Q (ix3 (cloudOf d b) r _)) (Q (ix3 (cloudOf d b) i _))]

/-- The place of a device's edge among all edges. -/
def edgeOf (e : Fin 262144) : Fin 524288 := ⟨d.val * 262144 + e.val, by have := d.isLt; have := e.isLt; change d.val < 2 at *; omega⟩

/-- A device's edge in its cloud. -/
def inCloud (e : Fin 262144) : Fin 131072 := ⟨e.val % 131072, Nat.mod_lt _ (by norm_num)⟩

include hP in
/-- The reference's neighbour of a device's edge. -/
theorem nbr_eq (hQ : ∀ b r x, ∃ q : ℝ, Q (ix3 b r x) = (q : EReal)) (e : Fin 262144) :
    Ref.nbrs Q (ix2 (cloudOf d (eb e)) (inCloud e)) = BitVec.ofNat 32 (found (dcol (pts m d) (eb e) (en e)) (ek e).val).val := by
  rw [dcol_eq m d Q hP, ← Ref.nbrs_apply Q (rrow_lt Q hQ)]
  congr 2
  refine Fin.ext ?_
  show e.val % 131072 = e.val / 32 % 4096 * 32 + e.val % 32
  omega

/-- A device's share of the numbering. -/
theorem shift_apply (i : S_.Idx) : shift d i = BitVec.ofNat 32 (d.val * 8192) := by
  rw [show i = (fun a => a.elim0) from funext fun a => a.elim0]
  obtain ⟨n, hn⟩ := d
  have hn' : n < 2 := hn
  rcases (show n = 0 ∨ n = 1 by omega) with rfl | rfl
  · unfold shift Dev.word
    pointwise
    simp [IntOp.muli, IntOp.remui, IntOp.divui]
  · unfold shift Dev.word
    pointwise
    simp [IntOp.muli, IntOp.remui, IntOp.divui]

include hP in
/-- The first results agree. -/
theorem edges_eq (hQ : ∀ b r x, ∃ q : ℝ, Q (ix3 b r x) = (q : EReal)) (e : Fin 262144) :
    edges m d (ix1 e) = Ref.edgesOf (Ref.nbrs Q) (ix1 (edgeOf d e)) := by
  have hd : d.val < 2 := d.isLt
  have he := e.isLt
  rw [Ref.edgesOf_apply]
  have h1 : (⟨(edgeOf d e).val / 131072, by have := (edgeOf d e).isLt; omega⟩ : Fin 4) = cloudOf d (eb e) :=
    Fin.ext (by show (d.val * 262144 + e.val) / 131072 = d.val * 2 + e.val / 131072; omega)
  have h2 : (⟨(edgeOf d e).val % 131072, Nat.mod_lt _ (by norm_num)⟩ : Fin 131072) = inCloud e :=
    Fin.ext (by show (d.val * 262144 + e.val) % 131072 = e.val % 131072; omega)
  have h3 : (edgeOf d e).val / 131072 = d.val * 2 + (eb e).val := by show (d.val * 262144 + e.val) / 131072 = d.val * 2 + e.val / 131072; omega
  rw [h1, h2, h3, nbr_eq m d Q hP hQ]
  have hs : edges m d (ix1 e) = (args m).ix d (ix1 e) + BitVec.ofNat 32 (d.val * 8192) := by
    rw [← shift_apply d (fun i => i.elim0)]
    unfold edges
    generalize (args m).ix d = I
    pointwise
    rfl
  rw [hs]
  refine BitVec.eq_of_toNat_eq ?_
  rw [BitVec.toNat_add, ix_toNat]
  have hb : (eb e).val < 2 := (eb e).isLt
  have hf := (found (dcol (pts m d) (eb e) (en e)) (ek e).val).isLt
  simp only [BitVec.toNat_add, BitVec.toNat_mul, BitVec.toNat_ofNat]
  omega

/-- A coordinate list at a point. -/
theorem coord_apply (k : ℕ) (hk : k < 3) (h : S8192x3.Slices ![0, k] S8192x1) (n : ℕ) (b : Fin 2) (r : Fin 4096) (hn : n = b.val * 4096 + r.val) :
    coord m k h d (at8 n) = pts m d (ix3 b r ⟨k, hk⟩) := by
  have hb := b.isLt
  have hr := r.isLt
  rw [show at8 n = ix1 (⟨n % 8192, Nat.mod_lt _ (by norm_num)⟩ : Fin 8192) from by
    funext a; obtain rfl : a = 0 := Subsingleton.elim _ _; rfl]
  unfold coord
  generalize pts m d = P
  pointwise
  congr 2
  all_goals refine Fin.ext ?_
  all_goals (simp only []; omega)

include hP in
/-- A difference the SparseCores compute is the reference's. -/
theorem diff_eq (hQ : ∀ b r x, ∃ q : ℝ, Q (ix3 b r x) = (q : EReal)) (k : ℕ) (hk : k < 3) (h : S8192x3.Slices ![0, k] S8192x1) (e : Fin 262144) :
    diff (F := Ideal) (coord m k h d) ((args m).ix d) (ix1 e) = Ref.featsOf Q (Ref.nbrs Q) (ix2 (edgeOf d e) ⟨k, hk⟩) := by
  have hd : d.val < 2 := d.isLt
  have he := e.isLt
  rw [Ref.featsOf_apply Q (Ref.nbrs Q) (cloudOf d (eb e)) (inCloud e) (edgeOf d e)
    (by show d.val * 262144 + e.val = (d.val * 2 + e.val / 131072) * 131072 + e.val % 131072; omega) ⟨k, hk⟩ _ (nbr_eq m d Q hP hQ e)]
  show coord m k h d (at8 ((args m).ix d (ix1 e)).toNat) - coord m k h d (at8 (e.val / 32)) = _
  rw [coord_apply m d k hk h _ (eb e) (found (dcol (pts m d) (eb e) (en e)) (ek e).val) (by rw [ix_toNat]; omega),
    coord_apply m d k hk h _ (eb e) (en e) (by show e.val / 32 = e.val / 131072 * 4096 + e.val / 32 % 4096; omega), hP, hP]
  congr 3
  refine Fin.ext ?_
  show e.val / 32 % 4096 = e.val % 131072 / 32
  omega

include hP in
/-- The second results agree. -/
theorem feats_eq (hQ : ∀ b r x, ∃ q : ℝ, Q (ix3 b r x) = (q : EReal)) (e : Fin 262144) (x : Fin 3) :
    feats m d (ix2 e x) = Ref.featsOf Q (Ref.nbrs Q) (ix2 (edgeOf d e) x) := by
  have h0 := diff_eq m d Q hP hQ 0 (by norm_num) slices_S8192x3_S8192x1_0_0 e
  have h1 := diff_eq m d Q hP hQ 1 (by norm_num) slices_S8192x3_S8192x1_0_1 e
  have h2 := diff_eq m d Q hP hQ 2 (by norm_num) slices_S8192x3_S8192x1_0_2 e
  pointwise [feats, col]
  by_cases hx : x.val < 1
  · rw [dif_pos hx, show x = ⟨0, by norm_num⟩ from Fin.ext (by show x.val = 0; omega)]
    exact h0
  · by_cases hx' : x.val - 1 < 1
    · rw [dif_neg hx, dif_pos hx', show x = ⟨1, by norm_num⟩ from Fin.ext (by show x.val = 1; omega)]
      exact h1
    · rw [dif_neg hx, dif_neg hx', show x = ⟨2, by norm_num⟩ from Fin.ext (by have := x.isLt; show x.val = 2; omega)]
      exact h2

end

end Cert.Flot
-- ==== Proof.lean ====
/-
  The claims: the kernel's run, proved once for every instance of the floats, read at the ideal one; the reference's run.
-/
module

public import proofs.«01_k».proof.Defs
public import proofs.«01_k».proof.Proof.Link
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Adequacy
public import Idealize.ShloMosaic.Init

@[expose] public section

noncomputable section

namespace Cert.Proof

open Idealize.ShloMosaic Idealize.SL.Sem

/-- The kernel runs, leaves its argument as it was and its counters at zero. -/
theorem frame_kernel : Cert.quiescent_KernelIdeal := fun m g _ =>
  haveI : ∀ e, Nonempty (Elt Ideal e) := fun e => inferInstance
  (θ_run _ _ _).mono (fun _ h => ⟨fun c => (h.1 c).1, h.2⟩) (Cert.Flot.run m g (Cert.Flot.ix_lt m))

/-- The reference runs, leaves its argument as it was and its counters at zero. -/
theorem frame_reference : Cert.quiescent_ReferenceIdeal := fun m g _ =>
  (θ_run _ _ _).mono (fun r h => ⟨fun c => (h c).2.2, Idealize.ShloMosaic.sem_eq_zero_of_no_sems (by decide) r.2⟩)
    (Cert.ReferenceIdeal.Value.run m g)

/-- The reference runs, and leaves the edges and the differences as Ref names them, and its argument as it was. -/
theorem reference_run (m : (ℓ : Loc Cert.ReferenceIdeal.nD Cert.ReferenceIdeal.τ Cert.ReferenceIdeal.sig) → Buf (Elt Ideal) ℓ) (g : Dev Cert.ReferenceIdeal.nD → PrngReg)
    (Q : Cert.ReferenceIdeal.S4x4096x3.Idx → EReal)
    (hQ : m (((0 : Dev Cert.ReferenceIdeal.nD).tc : Thread Cert.ReferenceIdeal.nD Cert.ReferenceIdeal.τ).loc Cert.ReferenceIdeal.main_arg0) = Q) :
    θ_run (Cert.ReferenceIdeal.defs (F := Ideal)) (onTc (τ := Cert.ReferenceIdeal.τ) (Cert.ReferenceIdeal.main (F := Ideal))) ⟨m, fun _ => 0, g⟩ (fun r =>
      r.2.mem (((0 : Dev Cert.ReferenceIdeal.nD).tc : Thread Cert.ReferenceIdeal.nD Cert.ReferenceIdeal.τ).loc Cert.ReferenceIdeal.main_v124) = Cert.Flot.Ref.edgesOf (Cert.Flot.Ref.nbrs Q)
      ∧ r.2.mem (((0 : Dev Cert.ReferenceIdeal.nD).tc : Thread Cert.ReferenceIdeal.nD Cert.ReferenceIdeal.τ).loc Cert.ReferenceIdeal.main_v117) = Cert.Flot.Ref.featsOf Q (Cert.Flot.Ref.nbrs Q)
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)) := by
  refine (θ_run _ _ _).mono (fun r h => ⟨(h 0).1.trans ?_, (h 0).2.1.trans ?_, (h 0).2.2⟩) (Cert.ReferenceIdeal.Value.run m g)
  · rw [hQ]
    rfl
  · unfold Cert.ReferenceIdeal.Value.res_main_v117
    rw [hQ]
    rfl

/-- The two programs compute the same edges and the same differences. -/
theorem same_values : Cert.algebraic_KernelIdeal_ReferenceIdeal_pre_finite_KernelIdeal := by
  intro m g m' g' hpre hin
  haveI : ∀ e, Nonempty (Elt Ideal e) := fun e => inferInstance
  obtain ⟨Q, hQ⟩ : ∃ Q : Cert.ReferenceIdeal.S4x4096x3.Idx → EReal,
    m' (((0 : Dev Cert.ReferenceIdeal.nD).tc : Thread Cert.ReferenceIdeal.nD Cert.ReferenceIdeal.τ).loc Cert.ReferenceIdeal.main_arg0) = Q := ⟨_, rfl⟩
  have hP : ∀ d b r x, Cert.Flot.pts m d (ix3 b r x) = Q (ix3 (Cert.Flot.cloudOf d b) r x) := by
    intro d b r x
    have hc : (Cert.Flot.cloudOf d b).val = d.val * 2 + b.val := rfl
    have e := congrFun (hin d) (ix3 b r x)
    rw [hQ] at e
    refine e.trans ?_
    shard_norm
    shard_ext
  have hfin : ∀ b r x, ∃ q : ℝ, Q (ix3 b r x) = (q : EReal) := by
    intro b r x
    have hb := b.isLt
    have h := Cert.Flot.number_of_check _ (hpre ⟨b.val / 2, by show b.val / 2 < 2; omega⟩) ⟨b.val % 2, Nat.mod_lt _ (by norm_num)⟩ r x
    obtain ⟨q, hq⟩ := h
    refine ⟨q, ?_⟩
    rw [← hq]
    refine Eq.trans ?_ (hP _ _ _ _).symm
    refine congrArg (fun c => Q (ix3 c r x)) (Fin.ext ?_)
    show b.val = b.val / 2 * 2 + b.val % 2
    omega
  refine ⟨Cert.Flot.Ref.edgesOf (Cert.Flot.Ref.nbrs Q), Cert.Flot.Ref.featsOf Q (Cert.Flot.Ref.nbrs Q), ?_, reference_run m' g' Q hQ⟩
  refine (θ_run _ _ _).mono (fun r h c => ⟨(h.1 c).2.1.trans ?_, (h.1 c).2.2.trans ?_, (h.1 c).1⟩) (Cert.Flot.run m g (Cert.Flot.ix_lt m))
  · funext i
    obtain ⟨e, rfl⟩ : ∃ e : Fin 262144, i = ix1 e := ⟨i 0, by funext a; obtain rfl : a = 0 := Subsingleton.elim _ _; rfl⟩
    refine (Cert.Flot.edges_eq m c Q (hP c) hfin e).trans ?_
    have hc : (Cert.Flot.edgeOf c e).val = c.val * 262144 + e.val := rfl
    shard_norm
    shard_ext
  · funext i
    obtain ⟨e, x, rfl⟩ : ∃ (e : Fin 262144) (x : Fin 3), i = ix2 e x := ⟨i 0, i 1, by funext a; match a with | ⟨0, _⟩ => rfl | ⟨1, _⟩ => rfl⟩
    refine (Cert.Flot.feats_eq m c Q (hP c) hfin e x).trans ?_
    have hc : (Cert.Flot.edgeOf c e).val = c.val * 262144 + e.val := rfl
    shard_norm
    shard_ext

/-- Everything claimed. -/
theorem claim : Cert.Claim :=
  ⟨Cert.KernelIdeal.Gen.facts, Cert.ReferenceIdeal.Gen.facts, Cert.Pre_finite_KernelIdeal.Gen.facts, Cert.Pre_finite_ReferenceIdeal.Gen.facts,
    frame_kernel, fun m g _ => frame_kernel m g trivial, frame_reference, fun m g _ => frame_reference m g trivial, same_values⟩

end Cert.Proof

end
